-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pack.Statement Cert.KernelIdeal.S128x128
  ∧ IdealRules.named_const.Statement Cert.KernelIdeal.κ "log2e" .f32 0x3FB8AA3B#32 (((Real.log 2)⁻¹ : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S12x256x8192 : Shape := ⟨3, ![12, 256, 8192]⟩
abbrev S12x256x128 : Shape := ⟨3, ![12, 256, 128]⟩
abbrev S12 : Shape := ⟨1, ![12]⟩
abbrev S256x16384 : Shape := ⟨2, ![256, 16384]⟩
abbrev S256x128 : Shape := ⟨2, ![256, 128]⟩
abbrev S_ : Shape := ⟨0, ![]⟩
abbrev S256 : Shape := ⟨1, ![256]⟩
abbrev S256x53248 : Shape := ⟨2, ![256, 53248]⟩
abbrev S12x1x1 : Shape := ⟨3, ![12, 1, 1]⟩

class Facts : Prop where
  bcast_S12_S12x1x1_0 : S12.BroadcastsInDim S12x1x1 (![0] : Fin 1 → Fin S12x1x1.rank)
  bcast_S12x1x1_S12x256x128_0_1_2 : S12x1x1.BroadcastsInDim S12x256x128 (![0, 1, 2] : Fin 3 → Fin S12x256x128.rank)
  bcast_S_S12x256x128 : S_.BroadcastsInDim S12x256x128 (![] : Fin 0 → Fin S12x256x128.rank)
  reducesTo_S12x256x128_S_d0_1_2 : S12x256x128.ReducesTo [0, 1, 2] S_
  h_S_ : 0 < S_.numel

variable [Facts]

def fn {F : FTy → Type} [FloatOps F] (main_arg0 : IVec S12x256x8192 8) (main_arg1 : FVec F S12x256x128 .f32) (main_arg2 : FVec F S12 .f32) (main_arg3 : FVec F S256x16384 .f32) (main_arg4 : FVec F S256x16384 .bf16) (main_arg5 : IVec S256x16384 8) (main_arg6 : FVec F S256x128 .f32) (main_arg7 : FVec F S_ .f32) (main_arg8 : IVec S256 32) (main_arg9 : FVec F S256x53248 .f32) (main_arg10 : FVec F S256x53248 .bf16) (main_arg11 : IVec S256 32) : IVec S_ 1 :=
  let main_v0 : FVec F S12x1x1 .f32 := broadcastInDim S12x1x1 ![0] bcast_S12_S12x1x1_0 main_arg2
  let main_v1 : FVec F S12x256x128 .f32 := broadcastInDim S12x256x128 ![0, 1, 2] bcast_S12x1x1_S12x256x128_0_1_2 main_v0
  let main_v2 : FVec F S12x256x128 .f32 := mulf main_v1 main_arg1
  let main_v3 : FVec F S12x256x128 .f32 := Host.absf main_v2
  let main_cst : FVec F S_ .f32 := constant S_ .f32 0x7F800000#32
  let main_v4 : FVec F S12x256x128 .f32 := broadcastInDim S12x256x128 ![] bcast_S_S12x256x128 main_cst
  let main_v5 : IVec S12x256x128 1 := cmpf .olt main_v3 main_v4
  let main_c : IVec S_ 1 := constantI S_ 1 1#1
  let main_v6 : IVec S_ 1 := (fun x v => Host.reduce IntOp.andi x v reducesTo_S12x256x128_S_d0_1_2 h_S_) main_v5 main_c
  main_v6
-- ==== Kernel.lean ====
abbrev S12x256x8192 : Shape := ⟨3, ![12, 256, 8192]⟩
abbrev S12x256x128 : Shape := ⟨3, ![12, 256, 128]⟩
abbrev S12 : Shape := ⟨1, ![12]⟩
abbrev S256x16384 : Shape := ⟨2, ![256, 16384]⟩
abbrev S256x128 : Shape := ⟨2, ![256, 128]⟩
abbrev S_ : Shape := ⟨0, ![]⟩
abbrev S256 : Shape := ⟨1, ![256]⟩
abbrev S256x53248 : Shape := ⟨2, ![256, 53248]⟩
abbrev S1 : Shape := ⟨1, ![1]⟩
abbrev S2x128 : Shape := ⟨2, ![2, 128]⟩
abbrev S256x26624 : Shape := ⟨2, ![256, 26624]⟩
abbrev S256x416 : Shape := ⟨2, ![256, 416]⟩
abbrev S4x2x128 : Shape := ⟨3, ![4, 2, 128]⟩
abbrev S4x128 : Shape := ⟨2, ![4, 128]⟩
abbrev S12x128x512 : Shape := ⟨3, ![12, 128, 512]⟩
abbrev S12x128x128 : Shape := ⟨3, ![12, 128, 128]⟩
abbrev S128x1024 : Shape := ⟨2, ![128, 1024]⟩
abbrev S128x128 : Shape := ⟨2, ![128, 128]⟩
abbrev S128x3328 : Shape := ⟨2, ![128, 3328]⟩
abbrev S128x1664 : Shape := ⟨2, ![128, 1664]⟩
abbrev S128x416 : Shape := ⟨2, ![128, 416]⟩
abbrev S3x4x128x384 : Shape := ⟨4, ![3, 4, 128, 384]⟩
abbrev S4x128x128 : Shape := ⟨3, ![4, 128, 128]⟩
abbrev S16x128x128 : Shape := ⟨3, ![16, 128, 128]⟩
abbrev S32x128 : Shape := ⟨2, ![32, 128]⟩
abbrev S8x128 : Shape := ⟨2, ![8, 128]⟩
abbrev S1x32x128 : Shape := ⟨3, ![1, 32, 128]⟩
abbrev S1x1x128x128 : Shape := ⟨4, ![1, 1, 128, 128]⟩
abbrev S384x128 : Shape := ⟨2, ![384, 128]⟩
abbrev S384x256 : Shape := ⟨2, ![384, 256]⟩
abbrev S1x1x1x384 : Shape := ⟨4, ![1, 1, 1, 384]⟩
abbrev S1x384 : Shape := ⟨2, ![1, 384]⟩
abbrev S1x128 : Shape := ⟨2, ![1, 128]⟩
abbrev S32x384 : Shape := ⟨2, ![32, 384]⟩
abbrev S64x384 : Shape := ⟨2, ![64, 384]⟩
abbrev S64x256 : Shape := ⟨2, ![64, 256]⟩
abbrev S256x256 : Shape := ⟨2, ![256, 256]⟩
abbrev S64x128 : Shape := ⟨2, ![64, 128]⟩
abbrev S128x256 : Shape := ⟨2, ![128, 256]⟩
abbrev S32x1 : Shape := ⟨2, ![32, 1]⟩
abbrev S32 : Shape := ⟨1, ![32]⟩
abbrev S128 : Shape := ⟨1, ![128]⟩
abbrev S1x1 : Shape := ⟨2, ![1, 1]⟩
abbrev S1x32x1 : Shape := ⟨3, ![1, 32, 1]⟩
abbrev S1x128x128 : Shape := ⟨3, ![1, 128, 128]⟩
abbrev S1x1x128 : Shape := ⟨3, ![1, 1, 128]⟩
abbrev S128x32 : Shape := ⟨2, ![128, 32]⟩
abbrev S1x2x128 : Shape := ⟨3, ![1, 2, 128]⟩

abbrev nBuf : Space → Nat
  | .hbm => 25
  | .vmem => 39
  | .smem => 2
  | _ => 0

abbrev bufTy : (tb : Table) → Fin (tcTables nBuf tb) → BufTy
  | .hbm, ⟨0, _⟩ => ⟨S12x256x8192, .i8⟩
  | .hbm, ⟨1, _⟩ => ⟨S12x256x128, .f32⟩
  | .hbm, ⟨2, _⟩ => ⟨S12, .f32⟩
  | .hbm, ⟨3, _⟩ => ⟨S256x16384, .f32⟩
  | .hbm, ⟨4, _⟩ => ⟨S256x16384, .bf16⟩
  | .hbm, ⟨5, _⟩ => ⟨S256x16384, .i8⟩
  | .hbm, ⟨6, _⟩ => ⟨S256x128, .f32⟩
  | .hbm, ⟨7, _⟩ => ⟨S_, .f32⟩
  | .hbm, ⟨8, _⟩ => ⟨S256, .i32⟩
  | .hbm, ⟨9, _⟩ => ⟨S256x53248, .f32⟩
  | .hbm, ⟨10, _⟩ => ⟨S256x53248, .bf16⟩
  | .hbm, ⟨11, _⟩ => ⟨S256, .i32⟩
  | .hbm, ⟨12, _⟩ => ⟨S1, .f32⟩
  | .hbm, ⟨13, _⟩ => ⟨S2x128, .i32⟩
  | .hbm, ⟨14, _⟩ => ⟨S2x128, .i32⟩
  | .hbm, ⟨15, _⟩ => ⟨S256x16384, .f32⟩
  | .hbm, ⟨16, _⟩ => ⟨S256x16384, .f32⟩
  | .hbm, ⟨17, _⟩ => ⟨S256x16384, .i8⟩
  | .hbm, ⟨18, _⟩ => ⟨S256x128, .f32⟩
  | .hbm, ⟨19, _⟩ => ⟨S256x16384, .fp8e4m3⟩
  | .hbm, ⟨20, _⟩ => ⟨S2x128, .f32⟩
  | .hbm, ⟨21, _⟩ => ⟨S256x26624, .i8⟩
  | .hbm, ⟨22, _⟩ => ⟨S256x416, .f32⟩
  | .hbm, ⟨23, _⟩ => ⟨S4x2x128, .f32⟩
  | .hbm, ⟨24, _⟩ => ⟨S4x128, .f32⟩
  | .local _ .vmem, ⟨0, _⟩ => ⟨S2x128, .i32⟩
  | .local _ .vmem, ⟨1, _⟩ => ⟨S2x128, .i32⟩
  | .local _ .vmem, ⟨2, _⟩ => ⟨S12x128x512, .i8⟩
  | .local _ .vmem, ⟨3, _⟩ => ⟨S12x128x512, .i8⟩
  | .local _ .vmem, ⟨4, _⟩ => ⟨S12x128x128, .f32⟩
  | .local _ .vmem, ⟨5, _⟩ => ⟨S12x128x128, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .i8⟩
  | .local _ .vmem, ⟨11, _⟩ => ⟨S128x1024, .i8⟩
  | .local _ .vmem, ⟨12, _⟩ => ⟨S128x128, .f32⟩
  | .local _ .vmem, ⟨13, _⟩ => ⟨S128x128, .f32⟩
  | .local _ .vmem, ⟨14, _⟩ => ⟨S128x3328, .f32⟩
  | .local _ .vmem, ⟨15, _⟩ => ⟨S128x3328, .f32⟩
  | .local _ .vmem, ⟨16, _⟩ => ⟨S128x3328, .bf16⟩
  | .local _ .vmem, ⟨17, _⟩ => ⟨S128x3328, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .i8⟩
  | .local _ .vmem, ⟨23, _⟩ => ⟨S128x1024, .i8⟩
  | .local _ .vmem, ⟨24, _⟩ => ⟨S128x128, .f32⟩
  | .local _ .vmem, ⟨25, _⟩ => ⟨S128x128, .f32⟩
  | .local _ .vmem, ⟨26, _⟩ => ⟨S128x1024, .fp8e4m3⟩
  | .local _ .vmem, ⟨27, _⟩ => ⟨S128x1024, .fp8e4m3⟩
  | .local _ .vmem, ⟨28, _⟩ => ⟨S2x128, .f32⟩
  | .local _ .vmem, ⟨29, _⟩ => ⟨S128x1664, .i8⟩
  | .local _ .vmem, ⟨30, _⟩ => ⟨S128x1664, .i8⟩
  | .local _ .vmem, ⟨31, _⟩ => ⟨S128x416, .f32⟩
  | .local _ .vmem, ⟨32, _⟩ => ⟨S128x416, .f32⟩
  | .local _ .vmem, ⟨33, _⟩ => ⟨S4x2x128, .f32⟩
  | .local _ .vmem, ⟨34, _⟩ => ⟨S4x128, .f32⟩
  | .local _ .vmem, ⟨35, _⟩ => ⟨S3x4x128x384, .f32⟩
  | .local _ .vmem, ⟨36, _⟩ => ⟨S4x128x128, .f32⟩
  | .local _ .vmem, ⟨37, _⟩ => ⟨S128x128, .f32⟩
  | .local _ .vmem, ⟨38, _⟩ => ⟨S16x128x128, .f32⟩
  | .local _ .smem, ⟨0, _⟩ => ⟨S12, .f32⟩
  | .local _ .smem, ⟨1, _⟩ => ⟨S1, .f32⟩
  | _, _ => ⟨S12x256x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem21_0 : DmaSem sig := 36

abbrev nD : Nat := 1
abbrev τ : Topo := Topo.v7x

variable {F : FTy → Type} [BitOps F]

abbrev grid0 : Pipeline.Grid := ⟨2, ![2, 16], ![false, false]⟩

def k0_off1 (i : grid0.Coords) (c0_i32_111 : BitVec 32) (c0_i32_112 : BitVec 32) : Fin 4 → Nat :=
  let c0_113 : Index := 0#32
  let c0_114 : Index := 0#32
  let arg1 : BitVec 32 := BitVec.ofNat 32 (i 1).val
  let c8_i32_110 : BitVec 32 := 8#32
  let v277 : BitVec 32 := Scalar.muli arg1 c8_i32_110
  let v278 : BitVec 32 := Scalar.addi v277 c0_i32_111
  let v279 : BitVec 32 := Scalar.addi v278 c0_i32_112
  let v280 : Index := Scalar.indexCast v279
  let c0_115 : Index := 0#32
  ![0, 0, v280.toNat, 0]
def k0_off2 (i : grid0.Coords) (c0_i32_130 : BitVec 32) (c0_i32_131 : BitVec 32) : Fin 4 → Nat :=
  let c1_132 : Index := 1#32
  let c0_133 : Index := 0#32
  let arg1 : BitVec 32 := BitVec.ofNat 32 (i 1).val
  let c8_i32_129 : BitVec 32 := 8#32
  let v335 : BitVec 32 := Scalar.muli arg1 c8_i32_129
  let v336 : BitVec 32 := Scalar.addi v335 c0_i32_130
  let v337 : BitVec 32 := Scalar.addi v336 c0_i32_131
  let v338 : Index := Scalar.indexCast v337
  let c0_134 : Index := 0#32
  ![1, 0, v338.toNat, 0]
def k0_off3 (i : grid0.Coords) (c0_i32_150 : BitVec 32) (c0_i32_151 : BitVec 32) : Fin 4 → Nat :=
  let c2_152 : Index := 2#32
  let c0_153 : Index := 0#32
  let arg1 : BitVec 32 := BitVec.ofNat 32 (i 1).val
  let c8_i32_149 : BitVec 32 := 8#32
  let v394 : BitVec 32 := Scalar.muli arg1 c8_i32_149
  let v395 : BitVec 32 := Scalar.addi v394 c0_i32_150
  let v396 : BitVec 32 := Scalar.addi v395 c0_i32_151
  let v397 : Index := Scalar.indexCast v396
  let c0_154 : Index := 0#32
  ![2, 0, v397.toNat, 0]
def k0_off4 (i : grid0.Coords) (c0_i32_999 : BitVec 32) (c0_i32_1000 : BitVec 32) : Fin 4 → Nat :=
  let c0_1001 : Index := 0#32
  let c1_1002 : Index := 1#32
  let arg1 : BitVec 32 := BitVec.ofNat 32 (i 1).val
  let c8_i32_998 : BitVec 32 := 8#32
  let v2446 : BitVec 32 := Scalar.muli arg1 c8_i32_998
  let v2447 : BitVec 32 := Scalar.addi v2446 c0_i32_999
  let v2448 : BitVec 32 := Scalar.addi v2447 c0_i32_1000
  let v2449 : Index := Scalar.indexCast v2448
  let c0_1003 : Index := 0#32
  ![0, 1, v2449.toNat, 0]
def k0_off5 (i : grid0.Coords) (c0_i32_1019 : BitVec 32) (c0_i32_1020 : BitVec 32) : Fin 4 → Nat :=
  let c1_1021 : Index := 1#32
  let c1_1022 : Index := 1#32
  let arg1 : BitVec 32 := BitVec.ofNat 32 (i 1).val
  let c8_i32_1018 : BitVec 32 := 8#32
  let v2504 : BitVec 32 := Scalar.muli arg1 c8_i32_1018
  let v2505 : BitVec 32 := Scalar.addi v2504 c0_i32_1019
  let v2506 : BitVec 32 := Scalar.addi v2505 c0_i32_1020
  let v2507 : Index := Scalar.indexCast v2506
  let c0_1023 : Index := 0#32
  ![1, 1, v2507.toNat, 0]
def k0_off6 (i : grid0.Coords) (c0_i32_1039 : BitVec 32) (c0_i32_1040 : BitVec 32) : Fin 4 → Nat :=
  let c2_1041 : Index := 2#32
  let c1_1042 : Index := 1#32
  let arg1 : BitVec 32 := BitVec.ofNat 32 (i 1).val
  let c8_i32_1038 : BitVec 32 := 8#32
  let v2563 : BitVec 32 := Scalar.muli arg1 c8_i32_1038
  let v2564 : BitVec 32 := Scalar.addi v2563 c0_i32_1039
  let v2565 : BitVec 32 := Scalar.addi v2564 c0_i32_1040
  let v2566 : Index := Scalar.indexCast v2565
  let c0_1043 : Index := 0#32
  ![2, 1, v2566.toNat, 0]
def k0_off7 (i : grid0.Coords) (c0_i32_1898 : BitVec 32) (c0_i32_1899 : BitVec 32) : Fin 4 → Nat :=
  let c0_1900 : Index := 0#32
  let c2_1901 : Index := 2#32
  let arg1 : BitVec 32 := BitVec.ofNat 32 (i 1).val
  let c8_i32_1897 : BitVec 32 := 8#32
  let v4623 : BitVec 32 := Scalar.muli arg1 c8_i32_1897
  let v4624 : BitVec 32 := Scalar.addi v4623 c0_i32_1898
  let v4625 : BitVec 32 := Scalar.addi v4624 c0_i32_1899
  let v4626 : Index := Scalar.indexCast v4625
  let c0_1902 : Index := 0#32
  ![0, 2, v4626.toNat, 0]
def k0_off8 (i : grid0.Coords) (c0_i32_1918 : BitVec 32) (c0_i32_1919 : BitVec 32) : Fin 4 → Nat :=
  let c1_1920 : Index := 1#32
  let c2_1921 : Index := 2#32
  let arg1 : BitVec 32 := BitVec.ofNat 32 (i 1).val
  let c8_i32_1917 : BitVec 32 := 8#32
  let v4681 : BitVec 32 := Scalar.muli arg1 c8_i32_1917
  let v4682 : BitVec 32 := Scalar.addi v4681 c0_i32_1918
  let v4683 : BitVec 32 := Scalar.addi v4682 c0_i32_1919
  let v4684 : Index := Scalar.indexCast v4683
  let c0_1922 : Index := 0#32
  ![1, 2, v4684.toNat, 0]
def k0_off9 (i : grid0.Coords) (c0_i32_1938 : BitVec 32) (c0_i32_1939 : BitVec 32) : Fin 4 → Nat :=
  let c2_1940 : Index := 2#32
  let c2_1941 : Index := 2#32
  let arg1 : BitVec 32 := BitVec.ofNat 32 (i 1).val
  let c8_i32_1937 : BitVec 32 := 8#32
  let v4740 : BitVec 32 := Scalar.muli arg1 c8_i32_1937
  let v4741 : BitVec 32 := Scalar.addi v4740 c0_i32_1938
  let v4742 : BitVec 32 := Scalar.addi v4741 c0_i32_1939
  let v4743 : Index := Scalar.indexCast v4742
  let c0_1942 : Index := 0#32
  ![2, 2, v4743.toNat, 0]
def k0_off10 (i : grid0.Coords) (c0_i32_2797 : BitVec 32) (c0_i32_2798 : BitVec 32) : Fin 4 → Nat :=
  let c0_2799 : Index := 0#32
  let c3_2800 : Index := 3#32
  let arg1 : BitVec 32 := BitVec.ofNat 32 (i 1).val
  let c8_i32_2796 : BitVec 32 := 8#32
  let v6800 : BitVec 32 := Scalar.muli arg1 c8_i32_2796
  let v6801 : BitVec 32 := Scalar.addi v6800 c0_i32_2797
  let v6802 : BitVec 32 := Scalar.addi v6801 c0_i32_2798
  let v6803 : Index := Scalar.indexCast v6802
  let c0_2801 : Index := 0#32
  ![0, 3, v6803.toNat, 0]
def k0_off11 (i : grid0.Coords) (c0_i32_2817 : BitVec 32) (c0_i32_2818 : BitVec 32) : Fin 4 → Nat :=
  let c1_2819 : Index := 1#32
  let c3_2820 : Index := 3#32
  let arg1 : BitVec 32 := BitVec.ofNat 32 (i 1).val
  let c8_i32_2816 : BitVec 32 := 8#32
  let v6858 : BitVec 32 := Scalar.muli arg1 c8_i32_2816
  let v6859 : BitVec 32 := Scalar.addi v6858 c0_i32_2817
  let v6860 : BitVec 32 := Scalar.addi v6859 c0_i32_2818
  let v6861 : Index := Scalar.indexCast v6860
  let c0_2821 : Index := 0#32
  ![1, 3, v6861.toNat, 0]
def k0_off12 (i : grid0.Coords) (c0_i32_2837 : BitVec 32) (c0_i32_2838 : BitVec 32) : Fin 4 → Nat :=
  let c2_2839 : Index := 2#32
  let c3_2840 : Index := 3#32
  let arg1 : BitVec 32 := BitVec.ofNat 32 (i 1).val
  let c8_i32_2836 : BitVec 32 := 8#32
  let v6917 : BitVec 32 := Scalar.muli arg1 c8_i32_2836
  let v6918 : BitVec 32 := Scalar.addi v6917 c0_i32_2837
  let v6919 : BitVec 32 := Scalar.addi v6918 c0_i32_2838
  let v6920 : Index := Scalar.indexCast v6919
  let c0_2841 : Index := 0#32
  ![2, 3, v6920.toNat, 0]
def k0_off13 (i : grid0.Coords) : Fin 2 → Nat :=
  let arg0 : BitVec 32 := BitVec.ofNat 32 (i 0).val
  let v8733 : Index := Scalar.indexCast arg0
  let c0_3578 : Index := 0#32
  ![v8733.toNat, 0]
def k0_off14 (i : grid0.Coords) : Fin 3 → Nat :=
  let arg1 : BitVec 32 := BitVec.ofNat 32 (i 1).val
  let v9367 : Index := Scalar.indexCast arg1
  let c0_3863 : Index := 0#32
  let c0_3864 : Index := 0#32
  ![v9367.toNat, 0, 0]
def k0_off15 (i : grid0.Coords) : Fin 3 → Nat :=
  let arg1 : BitVec 32 := BitVec.ofNat 32 (i 1).val
  let v9432 : Index := Scalar.indexCast arg1
  let c0_3886 : Index := 0#32
  let c1_3887 : Index := 1#32
  ![v9432.toNat, 0, 1]
def k0_off16 (i : grid0.Coords) : Fin 3 → Nat :=
  let arg1 : BitVec 32 := BitVec.ofNat 32 (i 1).val
  let v9509 : Index := Scalar.indexCast arg1
  let c0_3922 : Index := 0#32
  let c2_3923 : Index := 2#32
  ![v9509.toNat, 0, 2]
def k0_off17 (i : grid0.Coords) : Fin 3 → Nat :=
  let arg1 : BitVec 32 := BitVec.ofNat 32 (i 1).val
  let v9575 : Index := Scalar.indexCast arg1
  let c0_3952 : Index := 0#32
  let c3_3953 : Index := 3#32
  ![v9575.toNat, 0, 3]
def k0_off18 (i : grid0.Coords) : Fin 3 → Nat :=
  let arg1 : BitVec 32 := BitVec.ofNat 32 (i 1).val
  let v9652 : Index := Scalar.indexCast arg1
  let c0_3988 : Index := 0#32
  let c4_3989 : Index := 4#32
  ![v9652.toNat, 0, 4]
def k0_off19 (i : grid0.Coords) : Fin 3 → Nat :=
  let arg1 : BitVec 32 := BitVec.ofNat 32 (i 1).val
  let v9718 : Index := Scalar.indexCast arg1
  let c0_4018 : Index := 0#32
  let c5_4019 : Index := 5#32
  ![v9718.toNat, 0, 5]
def k0_off20 (i : grid0.Coords) : Fin 3 → Nat :=
  let arg1 : BitVec 32 := BitVec.ofNat 32 (i 1).val
  let v9795 : Index := Scalar.indexCast arg1
  let c0_4054 : Index := 0#32
  let c6_4055 : Index := 6#32
  ![v9795.toNat, 0, 6]
def k0_off21 (i : grid0.Coords) : Fin 3 → Nat :=
  let arg1 : BitVec 32 := BitVec.ofNat 32 (i 1).val
  let v9861 : Index := Scalar.indexCast arg1
  let c0_4084 : Index := 0#32
  let c7_4085 : Index := 7#32
  ![v9861.toNat, 0, 7]
def k0_off22 (i : grid0.Coords) : Fin 3 → Nat :=
  let arg1 : BitVec 32 := BitVec.ofNat 32 (i 1).val
  let v9938 : Index := Scalar.indexCast arg1
  let c0_4119 : Index := 0#32
  let c8_4120 : Index := 8#32
  ![v9938.toNat, 0, 8]
def k0_off23 (i : grid0.Coords) : Fin 3 → Nat :=
  let arg1 : BitVec 32 := BitVec.ofNat 32 (i 1).val
  let v10004 : Index := Scalar.indexCast arg1
  let c0_4148 : Index := 0#32
  let c9_4149 : Index := 9#32
  ![v10004.toNat, 0, 9]
def k0_off24 (i : grid0.Coords) : Fin 3 → Nat :=
  let arg1 : BitVec 32 := BitVec.ofNat 32 (i 1).val
  let v10081 : Index := Scalar.indexCast arg1
  let c0_4183 : Index := 0#32
  let c10_4184 : Index := 10#32
  ![v10081.toNat, 0, 10]
def k0_off25 (i : grid0.Coords) : Fin 3 → Nat :=
  let arg1 : BitVec 32 := BitVec.ofNat 32 (i 1).val
  let v10147 : Index := Scalar.indexCast arg1
  let c0_4212 : Index := 0#32
  let c11_4213 : Index := 11#32
  ![v10147.toNat, 0, 11]
def k0_off26 (i : grid0.Coords) : Fin 3 → Nat :=
  let arg1 : BitVec 32 := BitVec.ofNat 32 (i 1).val
  let v10224 : Index := Scalar.indexCast arg1
  let c0_4247 : Index := 0#32
  let c12 : Index := 12#32
  ![v10224.toNat, 0, 12]
def k0_off27 (i : grid0.Coords) : Fin 3 → Nat :=
  let arg1 : BitVec 32 := BitVec.ofNat 32 (i 1).val
  let v10290 : Index := Scalar.indexCast arg1
  let c0_4275 : Index := 0#32
  let c13 : Index := 13#32
  ![v10290.toNat, 0, 13]
def k0_off28 (i : grid0.Coords) : Fin 3 → Nat :=
  let arg1 : BitVec 32 := BitVec.ofNat 32 (i 1).val
  let v10367 : Index := Scalar.indexCast arg1
  let c0_4309 : Index := 0#32
  let c14 : Index := 14#32
  ![v10367.toNat, 0, 14]
def k0_off29 (i : grid0.Coords) : Fin 3 → Nat :=
  let arg1 : BitVec 32 := BitVec.ofNat 32 (i 1).val
  let v10433 : Index := Scalar.indexCast arg1
  let c0_4337 : Index := 0#32
  let c15 : Index := 15#32
  ![v10433.toNat, 0, 15]
def k0_off30 (i : grid0.Coords) : Fin 3 → Nat :=
  let arg1 : BitVec 32 := BitVec.ofNat 32 (i 1).val
  let v10510 : Index := Scalar.indexCast arg1
  let c0_4371 : Index := 0#32
  let c16 : Index := 16#32
  ![v10510.toNat, 0, 16]
def k0_off31 (i : grid0.Coords) : Fin 3 → Nat :=
  let arg1 : BitVec 32 := BitVec.ofNat 32 (i 1).val
  let v10576 : Index := Scalar.indexCast arg1
  let c0_4399 : Index := 0#32
  let c17 : Index := 17#32
  ![v10576.toNat, 0, 17]
def k0_off32 (i : grid0.Coords) : Fin 3 → Nat :=
  let arg1 : BitVec 32 := BitVec.ofNat 32 (i 1).val
  let v10653 : Index := Scalar.indexCast arg1
  let c0_4433 : Index := 0#32
  let c18 : Index := 18#32
  ![v10653.toNat, 0, 18]
def k0_off33 (i : grid0.Coords) : Fin 3 → Nat :=
  let arg1 : BitVec 32 := BitVec.ofNat 32 (i 1).val
  let v10719 : Index := Scalar.indexCast arg1
  let c0_4461 : Index := 0#32
  let c19 : Index := 19#32
  ![v10719.toNat, 0, 19]
def k0_off34 (i : grid0.Coords) : Fin 3 → Nat :=
  let arg1 : BitVec 32 := BitVec.ofNat 32 (i 1).val
  let v10796 : Index := Scalar.indexCast arg1
  let c0_4495 : Index := 0#32
  let c20 : Index := 20#32
  ![v10796.toNat, 0, 20]
def k0_off35 (i : grid0.Coords) : Fin 3 → Nat :=
  let arg1 : BitVec 32 := BitVec.ofNat 32 (i 1).val
  let v10862 : Index := Scalar.indexCast arg1
  let c0_4523 : Index := 0#32
  let c21 : Index := 21#32
  ![v10862.toNat, 0, 21]
def k0_off36 (i : grid0.Coords) : Fin 3 → Nat :=
  let arg1 : BitVec 32 := BitVec.ofNat 32 (i 1).val
  let v10939 : Index := Scalar.indexCast arg1
  let c0_4557 : Index := 0#32
  let c22 : Index := 22#32
  ![v10939.toNat, 0, 22]
def k0_off37 (i : grid0.Coords) : Fin 3 → Nat :=
  let arg1 : BitVec 32 := BitVec.ofNat 32 (i 1).val
  let v11005 : Index := Scalar.indexCast arg1
  let c0_4585 : Index := 0#32
  let c23 : Index := 23#32
  ![v11005.toNat, 0, 23]
def k0_off38 (i : grid0.Coords) : Fin 3 → Nat :=
  let arg1 : BitVec 32 := BitVec.ofNat 32 (i 1).val
  let v11082 : Index := Scalar.indexCast arg1
  let c0_4619 : Index := 0#32
  let c24 : Index := 24#32
  ![v11082.toNat, 0, 24]
def k0_off39 (i : grid0.Coords) : Fin 3 → Nat :=
  let arg1 : BitVec 32 := BitVec.ofNat 32 (i 1).val
  let v11148 : Index := Scalar.indexCast arg1
  let c0_4647 : Index := 0#32
  let c25 : Index := 25#32
  ![v11148.toNat, 0, 25]
def k0_off40 (i : grid0.Coords) : Fin 3 → Nat :=
  let arg1 : BitVec 32 := BitVec.ofNat 32 (i 1).val
  let v11231 : Index := Scalar.indexCast arg1
  let c32_4688 : Index := 32#32
  let c0_4689 : Index := 0#32
  ![v11231.toNat, 32, 0]
def k0_off41 (i : grid0.Coords) : Fin 3 → Nat :=
  let arg1 : BitVec 32 := BitVec.ofNat 32 (i 1).val
  let v11296 : Index := Scalar.indexCast arg1
  let c32_4718 : Index := 32#32
  let c1_4719 : Index := 1#32
  ![v11296.toNat, 32, 1]
def k0_off42 (i : grid0.Coords) : Fin 3 → Nat :=
  let arg1 : BitVec 32 := BitVec.ofNat 32 (i 1).val
  let v11373 : Index := Scalar.indexCast arg1
  let c32_4754 : Index := 32#32
  let c2_4755 : Index := 2#32
  ![v11373.toNat, 32, 2]
def k0_off43 (i : grid0.Coords) : Fin 3 → Nat :=
  let arg1 : BitVec 32 := BitVec.ofNat 32 (i 1).val
  let v11439 : Index := Scalar.indexCast arg1
  let c32_4784 : Index := 32#32
  let c3_4785 : Index := 3#32
  ![v11439.toNat, 32, 3]
def k0_off44 (i : grid0.Coords) : Fin 3 → Nat :=
  let arg1 : BitVec 32 := BitVec.ofNat 32 (i 1).val
  let v11516 : Index := Scalar.indexCast arg1
  let c32_4820 : Index := 32#32
  let c4_4821 : Index := 4#32
  ![v11516.toNat, 32, 4]
def k0_off45 (i : grid0.Coords) : Fin 3 → Nat :=
  let arg1 : BitVec 32 := BitVec.ofNat 32 (i 1).val
  let v11582 : Index := Scalar.indexCast arg1
  let c32_4850 : Index := 32#32
  let c5_4851 : Index := 5#32
  ![v11582.toNat, 32, 5]
def k0_off46 (i : grid0.Coords) : Fin 3 → Nat :=
  let arg1 : BitVec 32 := BitVec.ofNat 32 (i 1).val
  let v11659 : Index := Scalar.indexCast arg1
  let c32_4886 : Index := 32#32
  let c6_4887 : Index := 6#32
  ![v11659.toNat, 32, 6]
def k0_off47 (i : grid0.Coords) : Fin 3 → Nat :=
  let arg1 : BitVec 32 := BitVec.ofNat 32 (i 1).val
  let v11725 : Index := Scalar.indexCast arg1
  let c32_4916 : Index := 32#32
  let c7_4917 : Index := 7#32
  ![v11725.toNat, 32, 7]
def k0_off48 (i : grid0.Coords) : Fin 3 → Nat :=
  let arg1 : BitVec 32 := BitVec.ofNat 32 (i 1).val
  let v11802 : Index := Scalar.indexCast arg1
  let c32_4952 : Index := 32#32
  let c8_4953 : Index := 8#32
  ![v11802.toNat, 32, 8]
def k0_off49 (i : grid0.Coords) : Fin 3 → Nat :=
  let arg1 : BitVec 32 := BitVec.ofNat 32 (i 1).val
  let v11868 : Index := Scalar.indexCast arg1
  let c32_4982 : Index := 32#32
  let c9_4983 : Index := 9#32
  ![v11868.toNat, 32, 9]
def k0_off50 (i : grid0.Coords) : Fin 3 → Nat :=
  let arg1 : BitVec 32 := BitVec.ofNat 32 (i 1).val
  let v11945 : Index := Scalar.indexCast arg1
  let c32_5018 : Index := 32#32
  let c10_5019 : Index := 10#32
  ![v11945.toNat, 32, 10]
def k0_off51 (i : grid0.Coords) : Fin 3 → Nat :=
  let arg1 : BitVec 32 := BitVec.ofNat 32 (i 1).val
  let v12011 : Index := Scalar.indexCast arg1
  let c32_5048 : Index := 32#32
  let c11_5049 : Index := 11#32
  ![v12011.toNat, 32, 11]
def k0_off52 (i : grid0.Coords) : Fin 3 → Nat :=
  let arg1 : BitVec 32 := BitVec.ofNat 32 (i 1).val
  let v12088 : Index := Scalar.indexCast arg1
  let c32_5084 : Index := 32#32
  let c12_5085 : Index := 12#32
  ![v12088.toNat, 32, 12]
def k0_off53 (i : grid0.Coords) : Fin 3 → Nat :=
  let arg1 : BitVec 32 := BitVec.ofNat 32 (i 1).val
  let v12154 : Index := Scalar.indexCast arg1
  let c32_5114 : Index := 32#32
  let c13_5115 : Index := 13#32
  ![v12154.toNat, 32, 13]
def k0_off54 (i : grid0.Coords) : Fin 3 → Nat :=
  let arg1 : BitVec 32 := BitVec.ofNat 32 (i 1).val
  let v12231 : Index := Scalar.indexCast arg1
  let c32_5150 : Index := 32#32
  let c14_5151 : Index := 14#32
  ![v12231.toNat, 32, 14]
def k0_off55 (i : grid0.Coords) : Fin 3 → Nat :=
  let arg1 : BitVec 32 := BitVec.ofNat 32 (i 1).val
  let v12297 : Index := Scalar.indexCast arg1
  let c32_5180 : Index := 32#32
  let c15_5181 : Index := 15#32
  ![v12297.toNat, 32, 15]
def k0_off56 (i : grid0.Coords) : Fin 3 → Nat :=
  let arg1 : BitVec 32 := BitVec.ofNat 32 (i 1).val
  let v12374 : Index := Scalar.indexCast arg1
  let c32_5216 : Index := 32#32
  let c16_5217 : Index := 16#32
  ![v12374.toNat, 32, 16]
def k0_off57 (i : grid0.Coords) : Fin 3 → Nat :=
  let arg1 : BitVec 32 := BitVec.ofNat 32 (i 1).val
  let v12440 : Index := Scalar.indexCast arg1
  let c32_5246 : Index := 32#32
  let c17_5247 : Index := 17#32
  ![v12440.toNat, 32, 17]
def k0_off58 (i : grid0.Coords) : Fin 3 → Nat :=
  let arg1 : BitVec 32 := BitVec.ofNat 32 (i 1).val
  let v12517 : Index := Scalar.indexCast arg1
  let c32_5282 : Index := 32#32
  let c18_5283 : Index := 18#32
  ![v12517.toNat, 32, 18]
def k0_off59 (i : grid0.Coords) : Fin 3 → Nat :=
  let arg1 : BitVec 32 := BitVec.ofNat 32 (i 1).val
  let v12583 : Index := Scalar.indexCast arg1
  let c32_5312 : Index := 32#32
  let c19_5313 : Index := 19#32
  ![v12583.toNat, 32, 19]
def k0_off60 (i : grid0.Coords) : Fin 3 → Nat :=
  let arg1 : BitVec 32 := BitVec.ofNat 32 (i 1).val
  let v12660 : Index := Scalar.indexCast arg1
  let c32_5348 : Index := 32#32
  let c20_5349 : Index := 20#32
  ![v12660.toNat, 32, 20]
def k0_off61 (i : grid0.Coords) : Fin 3 → Nat :=
  let arg1 : BitVec 32 := BitVec.ofNat 32 (i 1).val
  let v12726 : Index := Scalar.indexCast arg1
  let c32_5378 : Index := 32#32
  let c21_5379 : Index := 21#32
  ![v12726.toNat, 32, 21]
def k0_off62 (i : grid0.Coords) : Fin 3 → Nat :=
  let arg1 : BitVec 32 := BitVec.ofNat 32 (i 1).val
  let v12803 : Index := Scalar.indexCast arg1
  let c32_5414 : Index := 32#32
  let c22_5415 : Index := 22#32
  ![v12803.toNat, 32, 22]
def k0_off63 (i : grid0.Coords) : Fin 3 → Nat :=
  let arg1 : BitVec 32 := BitVec.ofNat 32 (i 1).val
  let v12869 : Index := Scalar.indexCast arg1
  let c32_5444 : Index := 32#32
  let c23_5445 : Index := 23#32
  ![v12869.toNat, 32, 23]
def k0_off64 (i : grid0.Coords) : Fin 3 → Nat :=
  let arg1 : BitVec 32 := BitVec.ofNat 32 (i 1).val
  let v12946 : Index := Scalar.indexCast arg1
  let c32_5480 : Index := 32#32
  let c24_5481 : Index := 24#32
  ![v12946.toNat, 32, 24]
def k0_off65 (i : grid0.Coords) : Fin 3 → Nat :=
  let arg1 : BitVec 32 := BitVec.ofNat 32 (i 1).val
  let v13012 : Index := Scalar.indexCast arg1
  let c32_5510 : Index := 32#32
  let c25_5511 : Index := 25#32
  ![v13012.toNat, 32, 25]
def k0_off66 (i : grid0.Coords) : Fin 3 → Nat :=
  let arg1 : BitVec 32 := BitVec.ofNat 32 (i 1).val
  let v13095 : Index := Scalar.indexCast arg1
  let c64_5552 : Index := 64#32
  let c0_5553 : Index := 0#32
  ![v13095.toNat, 64, 0]
def k0_off67 (i : grid0.Coords) : Fin 3 → Nat :=
  let arg1 : BitVec 32 := BitVec.ofNat 32 (i 1).val
  let v13160 : Index := Scalar.indexCast arg1
  let c64_5582 : Index := 64#32
  let c1_5583 : Index := 1#32
  ![v13160.toNat, 64, 1]
def k0_off68 (i : grid0.Coords) : Fin 3 → Nat :=
  let arg1 : BitVec 32 := BitVec.ofNat 32 (i 1).val
  let v13237 : Index := Scalar.indexCast arg1
  let c64_5618 : Index := 64#32
  let c2_5619 : Index := 2#32
  ![v13237.toNat, 64, 2]
def k0_off69 (i : grid0.Coords) : Fin 3 → Nat :=
  let arg1 : BitVec 32 := BitVec.ofNat 32 (i 1).val
  let v13303 : Index := Scalar.indexCast arg1
  let c64_5648 : Index := 64#32
  let c3_5649 : Index := 3#32
  ![v13303.toNat, 64, 3]
def k0_off70 (i : grid0.Coords) : Fin 3 → Nat :=
  let arg1 : BitVec 32 := BitVec.ofNat 32 (i 1).val
  let v13380 : Index := Scalar.indexCast arg1
  let c64_5684 : Index := 64#32
  let c4_5685 : Index := 4#32
  ![v13380.toNat, 64, 4]
def k0_off71 (i : grid0.Coords) : Fin 3 → Nat :=
  let arg1 : BitVec 32 := BitVec.ofNat 32 (i 1).val
  let v13446 : Index := Scalar.indexCast arg1
  let c64_5714 : Index := 64#32
  let c5_5715 : Index := 5#32
  ![v13446.toNat, 64, 5]
def k0_off72 (i : grid0.Coords) : Fin 3 → Nat :=
  let arg1 : BitVec 32 := BitVec.ofNat 32 (i 1).val
  let v13523 : Index := Scalar.indexCast arg1
  let c64_5750 : Index := 64#32
  let c6_5751 : Index := 6#32
  ![v13523.toNat, 64, 6]
def k0_off73 (i : grid0.Coords) : Fin 3 → Nat :=
  let arg1 : BitVec 32 := BitVec.ofNat 32 (i 1).val
  let v13589 : Index := Scalar.indexCast arg1
  let c64_5780 : Index := 64#32
  let c7_5781 : Index := 7#32
  ![v13589.toNat, 64, 7]
def k0_off74 (i : grid0.Coords) : Fin 3 → Nat :=
  let arg1 : BitVec 32 := BitVec.ofNat 32 (i 1).val
  let v13666 : Index := Scalar.indexCast arg1
  let c64_5816 : Index := 64#32
  let c8_5817 : Index := 8#32
  ![v13666.toNat, 64, 8]
def k0_off75 (i : grid0.Coords) : Fin 3 → Nat :=
  let arg1 : BitVec 32 := BitVec.ofNat 32 (i 1).val
  let v13732 : Index := Scalar.indexCast arg1
  let c64_5846 : Index := 64#32
  let c9_5847 : Index := 9#32
  ![v13732.toNat, 64, 9]
def k0_off76 (i : grid0.Coords) : Fin 3 → Nat :=
  let arg1 : BitVec 32 := BitVec.ofNat 32 (i 1).val
  let v13809 : Index := Scalar.indexCast arg1
  let c64_5882 : Index := 64#32
  let c10_5883 : Index := 10#32
  ![v13809.toNat, 64, 10]
def k0_off77 (i : grid0.Coords) : Fin 3 → Nat :=
  let arg1 : BitVec 32 := BitVec.ofNat 32 (i 1).val
  let v13875 : Index := Scalar.indexCast arg1
  let c64_5912 : Index := 64#32
  let c11_5913 : Index := 11#32
  ![v13875.toNat, 64, 11]
def k0_off78 (i : grid0.Coords) : Fin 3 → Nat :=
  let arg1 : BitVec 32 := BitVec.ofNat 32 (i 1).val
  let v13952 : Index := Scalar.indexCast arg1
  let c64_5948 : Index := 64#32
  let c12_5949 : Index := 12#32
  ![v13952.toNat, 64, 12]
def k0_off79 (i : grid0.Coords) : Fin 3 → Nat :=
  let arg1 : BitVec 32 := BitVec.ofNat 32 (i 1).val
  let v14018 : Index := Scalar.indexCast arg1
  let c64_5978 : Index := 64#32
  let c13_5979 : Index := 13#32
  ![v14018.toNat, 64, 13]
def k0_off80 (i : grid0.Coords) : Fin 3 → Nat :=
  let arg1 : BitVec 32 := BitVec.ofNat 32 (i 1).val
  let v14095 : Index := Scalar.indexCast arg1
  let c64_6014 : Index := 64#32
  let c14_6015 : Index := 14#32
  ![v14095.toNat, 64, 14]
def k0_off81 (i : grid0.Coords) : Fin 3 → Nat :=
  let arg1 : BitVec 32 := BitVec.ofNat 32 (i 1).val
  let v14161 : Index := Scalar.indexCast arg1
  let c64_6044 : Index := 64#32
  let c15_6045 : Index := 15#32
  ![v14161.toNat, 64, 15]
def k0_off82 (i : grid0.Coords) : Fin 3 → Nat :=
  let arg1 : BitVec 32 := BitVec.ofNat 32 (i 1).val
  let v14238 : Index := Scalar.indexCast arg1
  let c64_6080 : Index := 64#32
  let c16_6081 : Index := 16#32
  ![v14238.toNat, 64, 16]
def k0_off83 (i : grid0.Coords) : Fin 3 → Nat :=
  let arg1 : BitVec 32 := BitVec.ofNat 32 (i 1).val
  let v14304 : Index := Scalar.indexCast arg1
  let c64_6110 : Index := 64#32
  let c17_6111 : Index := 17#32
  ![v14304.toNat, 64, 17]
def k0_off84 (i : grid0.Coords) : Fin 3 → Nat :=
  let arg1 : BitVec 32 := BitVec.ofNat 32 (i 1).val
  let v14381 : Index := Scalar.indexCast arg1
  let c64_6146 : Index := 64#32
  let c18_6147 : Index := 18#32
  ![v14381.toNat, 64, 18]
def k0_off85 (i : grid0.Coords) : Fin 3 → Nat :=
  let arg1 : BitVec 32 := BitVec.ofNat 32 (i 1).val
  let v14447 : Index := Scalar.indexCast arg1
  let c64_6176 : Index := 64#32
  let c19_6177 : Index := 19#32
  ![v14447.toNat, 64, 19]
def k0_off86 (i : grid0.Coords) : Fin 3 → Nat :=
  let arg1 : BitVec 32 := BitVec.ofNat 32 (i 1).val
  let v14524 : Index := Scalar.indexCast arg1
  let c64_6212 : Index := 64#32
  let c20_6213 : Index := 20#32
  ![v14524.toNat, 64, 20]
def k0_off87 (i : grid0.Coords) : Fin 3 → Nat :=
  let arg1 : BitVec 32 := BitVec.ofNat 32 (i 1).val
  let v14590 : Index := Scalar.indexCast arg1
  let c64_6242 : Index := 64#32
  let c21_6243 : Index := 21#32
  ![v14590.toNat, 64, 21]
def k0_off88 (i : grid0.Coords) : Fin 3 → Nat :=
  let arg1 : BitVec 32 := BitVec.ofNat 32 (i 1).val
  let v14667 : Index := Scalar.indexCast arg1
  let c64_6278 : Index := 64#32
  let c22_6279 : Index := 22#32
  ![v14667.toNat, 64, 22]
def k0_off89 (i : grid0.Coords) : Fin 3 → Nat :=
  let arg1 : BitVec 32 := BitVec.ofNat 32 (i 1).val
  let v14733 : Index := Scalar.indexCast arg1
  let c64_6308 : Index := 64#32
  let c23_6309 : Index := 23#32
  ![v14733.toNat, 64, 23]
def k0_off90 (i : grid0.Coords) : Fin 3 → Nat :=
  let arg1 : BitVec 32 := BitVec.ofNat 32 (i 1).val
  let v14810 : Index := Scalar.indexCast arg1
  let c64_6344 : Index := 64#32
  let c24_6345 : Index := 24#32
  ![v14810.toNat, 64, 24]
def k0_off91 (i : grid0.Coords) : Fin 3 → Nat :=
  let arg1 : BitVec 32 := BitVec.ofNat 32 (i 1).val
  let v14876 : Index := Scalar.indexCast arg1
  let c64_6374 : Index := 64#32
  let c25_6375 : Index := 25#32
  ![v14876.toNat, 64, 25]
def k0_off92 (i : grid0.Coords) : Fin 3 → Nat :=
  let arg1 : BitVec 32 := BitVec.ofNat 32 (i 1).val
  let v14959 : Index := Scalar.indexCast arg1
  let c96_6416 : Index := 96#32
  let c0_6417 : Index := 0#32
  ![v14959.toNat, 96, 0]
def k0_off93 (i : grid0.Coords) : Fin 3 → Nat :=
  let arg1 : BitVec 32 := BitVec.ofNat 32 (i 1).val
  let v15024 : Index := Scalar.indexCast arg1
  let c96_6446 : Index := 96#32
  let c1_6447 : Index := 1#32
  ![v15024.toNat, 96, 1]
def k0_off94 (i : grid0.Coords) : Fin 3 → Nat :=
  let arg1 : BitVec 32 := BitVec.ofNat 32 (i 1).val
  let v15101 : Index := Scalar.indexCast arg1
  let c96_6482 : Index := 96#32
  let c2_6483 : Index := 2#32
  ![v15101.toNat, 96, 2]
def k0_off95 (i : grid0.Coords) : Fin 3 → Nat :=
  let arg1 : BitVec 32 := BitVec.ofNat 32 (i 1).val
  let v15167 : Index := Scalar.indexCast arg1
  let c96_6512 : Index := 96#32
  let c3_6513 : Index := 3#32
  ![v15167.toNat, 96, 3]
def k0_off96 (i : grid0.Coords) : Fin 3 → Nat :=
  let arg1 : BitVec 32 := BitVec.ofNat 32 (i 1).val
  let v15244 : Index := Scalar.indexCast arg1
  let c96_6548 : Index := 96#32
  let c4_6549 : Index := 4#32
  ![v15244.toNat, 96, 4]
def k0_off97 (i : grid0.Coords) : Fin 3 → Nat :=
  let arg1 : BitVec 32 := BitVec.ofNat 32 (i 1).val
  let v15310 : Index := Scalar.indexCast arg1
  let c96_6578 : Index := 96#32
  let c5_6579 : Index := 5#32
  ![v15310.toNat, 96, 5]
def k0_off98 (i : grid0.Coords) : Fin 3 → Nat :=
  let arg1 : BitVec 32 := BitVec.ofNat 32 (i 1).val
  let v15387 : Index := Scalar.indexCast arg1
  let c96_6614 : Index := 96#32
  let c6_6615 : Index := 6#32
  ![v15387.toNat, 96, 6]
def k0_off99 (i : grid0.Coords) : Fin 3 → Nat :=
  let arg1 : BitVec 32 := BitVec.ofNat 32 (i 1).val
  let v15453 : Index := Scalar.indexCast arg1
  let c96_6644 : Index := 96#32
  let c7_6645 : Index := 7#32
  ![v15453.toNat, 96, 7]
def k0_off100 (i : grid0.Coords) : Fin 3 → Nat :=
  let arg1 : BitVec 32 := BitVec.ofNat 32 (i 1).val
  let v15530 : Index := Scalar.indexCast arg1
  let c96_6680 : Index := 96#32
  let c8_6681 : Index := 8#32
  ![v15530.toNat, 96, 8]
def k0_off101 (i : grid0.Coords) : Fin 3 → Nat :=
  let arg1 : BitVec 32 := BitVec.ofNat 32 (i 1).val
  let v15596 : Index := Scalar.indexCast arg1
  let c96_6710 : Index := 96#32
  let c9_6711 : Index := 9#32
  ![v15596.toNat, 96, 9]
def k0_off102 (i : grid0.Coords) : Fin 3 → Nat :=
  let arg1 : BitVec 32 := BitVec.ofNat 32 (i 1).val
  let v15673 : Index := Scalar.indexCast arg1
  let c96_6746 : Index := 96#32
  let c10_6747 : Index := 10#32
  ![v15673.toNat, 96, 10]
def k0_off103 (i : grid0.Coords) : Fin 3 → Nat :=
  let arg1 : BitVec 32 := BitVec.ofNat 32 (i 1).val
  let v15739 : Index := Scalar.indexCast arg1
  let c96_6776 : Index := 96#32
  let c11_6777 : Index := 11#32
  ![v15739.toNat, 96, 11]
def k0_off104 (i : grid0.Coords) : Fin 3 → Nat :=
  let arg1 : BitVec 32 := BitVec.ofNat 32 (i 1).val
  let v15816 : Index := Scalar.indexCast arg1
  let c96_6812 : Index := 96#32
  let c12_6813 : Index := 12#32
  ![v15816.toNat, 96, 12]
def k0_off105 (i : grid0.Coords) : Fin 3 → Nat :=
  let arg1 : BitVec 32 := BitVec.ofNat 32 (i 1).val
  let v15882 : Index := Scalar.indexCast arg1
  let c96_6842 : Index := 96#32
  let c13_6843 : Index := 13#32
  ![v15882.toNat, 96, 13]
def k0_off106 (i : grid0.Coords) : Fin 3 → Nat :=
  let arg1 : BitVec 32 := BitVec.ofNat 32 (i 1).val
  let v15959 : Index := Scalar.indexCast arg1
  let c96_6878 : Index := 96#32
  let c14_6879 : Index := 14#32
  ![v15959.toNat, 96, 14]
def k0_off107 (i : grid0.Coords) : Fin 3 → Nat :=
  let arg1 : BitVec 32 := BitVec.ofNat 32 (i 1).val
  let v16025 : Index := Scalar.indexCast arg1
  let c96_6908 : Index := 96#32
  let c15_6909 : Index := 15#32
  ![v16025.toNat, 96, 15]
def k0_off108 (i : grid0.Coords) : Fin 3 → Nat :=
  let arg1 : BitVec 32 := BitVec.ofNat 32 (i 1).val
  let v16102 : Index := Scalar.indexCast arg1
  let c96_6944 : Index := 96#32
  let c16_6945 : Index := 16#32
  ![v16102.toNat, 96, 16]
def k0_off109 (i : grid0.Coords) : Fin 3 → Nat :=
  let arg1 : BitVec 32 := BitVec.ofNat 32 (i 1).val
  let v16168 : Index := Scalar.indexCast arg1
  let c96_6974 : Index := 96#32
  let c17_6975 : Index := 17#32
  ![v16168.toNat, 96, 17]
def k0_off110 (i : grid0.Coords) : Fin 3 → Nat :=
  let arg1 : BitVec 32 := BitVec.ofNat 32 (i 1).val
  let v16245 : Index := Scalar.indexCast arg1
  let c96_7010 : Index := 96#32
  let c18_7011 : Index := 18#32
  ![v16245.toNat, 96, 18]
def k0_off111 (i : grid0.Coords) : Fin 3 → Nat :=
  let arg1 : BitVec 32 := BitVec.ofNat 32 (i 1).val
  let v16311 : Index := Scalar.indexCast arg1
  let c96_7040 : Index := 96#32
  let c19_7041 : Index := 19#32
  ![v16311.toNat, 96, 19]
def k0_off112 (i : grid0.Coords) : Fin 3 → Nat :=
  let arg1 : BitVec 32 := BitVec.ofNat 32 (i 1).val
  let v16388 : Index := Scalar.indexCast arg1
  let c96_7076 : Index := 96#32
  let c20_7077 : Index := 20#32
  ![v16388.toNat, 96, 20]
def k0_off113 (i : grid0.Coords) : Fin 3 → Nat :=
  let arg1 : BitVec 32 := BitVec.ofNat 32 (i 1).val
  let v16454 : Index := Scalar.indexCast arg1
  let c96_7106 : Index := 96#32
  let c21_7107 : Index := 21#32
  ![v16454.toNat, 96, 21]
def k0_off114 (i : grid0.Coords) : Fin 3 → Nat :=
  let arg1 : BitVec 32 := BitVec.ofNat 32 (i 1).val
  let v16531 : Index := Scalar.indexCast arg1
  let c96_7142 : Index := 96#32
  let c22_7143 : Index := 22#32
  ![v16531.toNat, 96, 22]
def k0_off115 (i : grid0.Coords) : Fin 3 → Nat :=
  let arg1 : BitVec 32 := BitVec.ofNat 32 (i 1).val
  let v16597 : Index := Scalar.indexCast arg1
  let c96_7172 : Index := 96#32
  let c23_7173 : Index := 23#32
  ![v16597.toNat, 96, 23]
def k0_off116 (i : grid0.Coords) : Fin 3 → Nat :=
  let arg1 : BitVec 32 := BitVec.ofNat 32 (i 1).val
  let v16674 : Index := Scalar.indexCast arg1
  let c96_7208 : Index := 96#32
  let c24_7209 : Index := 24#32
  ![v16674.toNat, 96, 24]
def k0_off117 (i : grid0.Coords) : Fin 3 → Nat :=
  let arg1 : BitVec 32 := BitVec.ofNat 32 (i 1).val
  let v16740 : Index := Scalar.indexCast arg1
  let c96_7238 : Index := 96#32
  let c25_7239 : Index := 25#32
  ![v16740.toNat, 96, 25]
def k0_cond3 (i : grid0.Coords) : BitVec 1 :=
  let arg1 : BitVec 32 := BitVec.ofNat 32 (i 1).val
  let c15_i32 : BitVec 32 := 15#32
  let v16816 : BitVec 1 := Scalar.cmpi .eq arg1 c15_i32
  let v16817 : BitVec 32 := Scalar.extui v16816
  let c0_i32_7275 : BitVec 32 := 0#32
  let v16818 : BitVec 1 := Scalar.cmpi .ne v16817 c0_i32_7275
  v16818

def k0_off118 (i : grid0.Coords) : Fin 3 → Nat :=
  let c0_7283 : Index := 0#32
  let arg0 : BitVec 32 := BitVec.ofNat 32 (i 0).val
  let v16829 : Index := Scalar.indexCast arg0
  let c0_7284 : Index := 0#32
  ![0, v16829.toNat, 0]
def k0_off119 (i : grid0.Coords) : Fin 3 → Nat :=
  let c1_7289 : Index := 1#32
  let arg0 : BitVec 32 := BitVec.ofNat 32 (i 0).val
  let v16838 : Index := Scalar.indexCast arg0
  let c0_7290 : Index := 0#32
  ![1, v16838.toNat, 0]
def k0_off120 (i : grid0.Coords) : Fin 3 → Nat :=
  let c2_7295 : Index := 2#32
  let arg0 : BitVec 32 := BitVec.ofNat 32 (i 0).val
  let v16847 : Index := Scalar.indexCast arg0
  let c0_7296 : Index := 0#32
  ![2, v16847.toNat, 0]
def k0_off121 (i : grid0.Coords) : Fin 3 → Nat :=
  let c3_7301 : Index := 3#32
  let arg0 : BitVec 32 := BitVec.ofNat 32 (i 0).val
  let v16856 : Index := Scalar.indexCast arg0
  let c0_7302 : Index := 0#32
  ![3, v16856.toNat, 0]
def k0_cond4 (i : grid0.Coords) : BitVec 1 :=
  let arg1 : BitVec 32 := BitVec.ofNat 32 (i 1).val
  let c15_i32_7276 : BitVec 32 := 15#32
  let v16819 : BitVec 1 := Scalar.cmpi .eq arg1 c15_i32_7276
  let arg0 : BitVec 32 := BitVec.ofNat 32 (i 0).val
  let c1_i32_7277 : BitVec 32 := 1#32
  let v16820 : BitVec 1 := Scalar.cmpi .eq arg0 c1_i32_7277
  let v16821 : BitVec 1 := Scalar.andi v16819 v16820
  let v16822 : BitVec 32 := Scalar.extui v16821
  let c0_i32_7278 : BitVec 32 := 0#32
  let v16823 : BitVec 1 := Scalar.cmpi .ne v16822 c0_i32_7278
  v16823

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S12x128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S12x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x3328 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x3328 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S128x1024 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S128x1664 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x416 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 1 → Memref sig .tc .vmem S4x2x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S12x256x8192 : Shape := ⟨3, ![12, 256, 8192]⟩
abbrev S12x256x128 : Shape := ⟨3, ![12, 256, 128]⟩
abbrev S12 : Shape := ⟨1, ![12]⟩
abbrev S256x16384 : Shape := ⟨2, ![256, 16384]⟩
abbrev S256x128 : Shape := ⟨2, ![256, 128]⟩
abbrev S_ : Shape := ⟨0, ![]⟩
abbrev S256 : Shape := ⟨1, ![256]⟩
abbrev S256x53248 : Shape := ⟨2, ![256, 53248]⟩
abbrev S12x256x128x64 : Shape := ⟨4, ![12, 256, 128, 64]⟩
abbrev S12x256x128x128 : Shape := ⟨4, ![12, 256, 128, 128]⟩
abbrev S12x256x128x1 : Shape := ⟨4, ![12, 256, 128, 1]⟩
abbrev S12x1x1x1 : Shape := ⟨4, ![12, 1, 1, 1]⟩
abbrev S256x128x128 : Shape := ⟨3, ![256, 128, 128]⟩
abbrev S256x128x1 : Shape := ⟨3, ![256, 128, 1]⟩

abbrev nBuf : Space → Nat
  | .hbm => 136
  | .vmem => 0
  | .smem => 0
  | _ => 0

abbrev hbmTy0_0 (i : Nat) : BufTy := match i % 128 with
  | 0 => ⟨S12x256x8192, .i8⟩
  | 1 => ⟨S12x256x128, .f32⟩
  | 2 => ⟨S12, .f32⟩
  | 3 => ⟨S256x16384, .f32⟩
  | 4 => ⟨S256x16384, .bf16⟩
  | 5 => ⟨S256x16384, .i8⟩
  | 6 => ⟨S256x128, .f32⟩
  | 7 => ⟨S_, .f32⟩
  | 8 => ⟨S256, .i32⟩
  | 9 => ⟨S256x53248, .f32⟩
  | 10 => ⟨S256x53248, .bf16⟩
  | 11 => ⟨S256, .i32⟩
  | 12 => ⟨S12x256x8192, .i32⟩
  | 13 => ⟨S12x256x128x64, .i32⟩
  | 14 => ⟨S_, .i32⟩
  | 15 => ⟨S12x256x128x64, .i32⟩
  | 16 => ⟨S12x256x128x64, .i32⟩
  | 17 => ⟨S_, .i32⟩
  | 18 => ⟨S12x256x128x64, .i32⟩
  | 19 => ⟨S12x256x128x64, .i32⟩
  | 20 => ⟨S_, .i32⟩
  | 21 => ⟨S12x256x128x64, .i32⟩
  | 22 => ⟨S12x256x128x64, .i1⟩
  | 23 => ⟨S_, .i32⟩
  | 24 => ⟨S12x256x128x64, .i32⟩
  | 25 => ⟨S12x256x128x64, .i32⟩
  | 26 => ⟨S12x256x128x64, .f32⟩
  | 27 => ⟨S_, .f32⟩
  | 28 => ⟨S12x256x128x64, .f32⟩
  | 29 => ⟨S12x256x128x64, .f32⟩
  | 30 => ⟨S_, .f32⟩
  | 31 => ⟨S_, .f32⟩
  | 32 => ⟨S12x256x128x64, .f32⟩
  | 33 => ⟨S12x256x128x64, .f32⟩
  | 34 => ⟨S_, .i32⟩
  | 35 => ⟨S12x256x128x64, .i32⟩
  | 36 => ⟨S12x256x128x64, .i32⟩
  | 37 => ⟨S_, .i32⟩
  | 38 => ⟨S12x256x128x64, .i32⟩
  | 39 => ⟨S12x256x128x64, .i1⟩
  | 40 => ⟨S12x256x128x64, .f32⟩
  | 41 => ⟨S12x256x128x64, .f32⟩
  | 42 => ⟨S_, .i32⟩
  | 43 => ⟨S12x256x128x64, .i32⟩
  | 44 => ⟨S12x256x128x64, .i32⟩
  | 45 => ⟨S_, .i32⟩
  | 46 => ⟨S12x256x128x64, .i32⟩
  | 47 => ⟨S12x256x128x64, .i32⟩
  | 48 => ⟨S_, .i32⟩
  | 49 => ⟨S12x256x128x64, .i32⟩
  | 50 => ⟨S12x256x128x64, .i1⟩
  | 51 => ⟨S_, .i32⟩
  | 52 => ⟨S12x256x128x64, .i32⟩
  | 53 => ⟨S12x256x128x64, .i32⟩
  | 54 => ⟨S12x256x128x64, .f32⟩
  | 55 => ⟨S_, .f32⟩
  | 56 => ⟨S12x256x128x64, .f32⟩
  | 57 => ⟨S12x256x128x64, .f32⟩
  | 58 => ⟨S_, .f32⟩
  | 59 => ⟨S_, .f32⟩
  | 60 => ⟨S12x256x128x64, .f32⟩
  | 61 => ⟨S12x256x128x64, .f32⟩
  | 62 => ⟨S_, .i32⟩
  | 63 => ⟨S12x256x128x64, .i32⟩
  | 64 => ⟨S12x256x128x64, .i32⟩
  | 65 => ⟨S_, .i32⟩
  | 66 => ⟨S12x256x128x64, .i32⟩
  | 67 => ⟨S12x256x128x64, .i1⟩
  | 68 => ⟨S12x256x128x64, .f32⟩
  | 69 => ⟨S12x256x128x64, .f32⟩
  | 70 => ⟨S12x256x128x128, .f32⟩
  | 71 => ⟨S12x256x128x1, .f32⟩
  | 72 => ⟨S12x256x128x128, .f32⟩
  | 73 => ⟨S12x256x128x128, .f32⟩
  | 74 => ⟨S12x1x1x1, .f32⟩
  | 75 => ⟨S12x256x128x128, .f32⟩
  | 76 => ⟨S12x256x128x128, .f32⟩
  | 77 => ⟨S_, .f32⟩
  | 78 => ⟨S256x128x128, .f32⟩
  | 79 => ⟨S256x16384, .i32⟩
  | 80 => ⟨S256x16384, .f32⟩
  | 81 => ⟨S256x128x128, .f32⟩
  | 82 => ⟨S256x128x1, .f32⟩
  | 83 => ⟨S256x128x128, .f32⟩
  | 84 => ⟨S256x128x128, .f32⟩
  | 85 => ⟨S_, .f32⟩
  | 86 => ⟨S256x128x128, .f32⟩
  | 87 => ⟨S256x128x128, .f32⟩
  | 88 => ⟨S256x128x128, .f32⟩
  | 89 => ⟨S256x16384, .f32⟩
  | 90 => ⟨S256x128x128, .f32⟩
  | 91 => ⟨S256x128x128, .f32⟩
  | 92 => ⟨S_, .f32⟩
  | 93 => ⟨S256x128x128, .f32⟩
  | 94 => ⟨S256x128x128, .f32⟩
  | 95 => ⟨S256x128x128, .f32⟩
  | 96 => ⟨S256x128x128, .f32⟩
  | 97 => ⟨S256x128x128, .f32⟩
  | 98 => ⟨S256x128x128, .f32⟩
  | 99 => ⟨S_, .f32⟩
  | 100 => ⟨S256x128x128, .f32⟩
  | 101 => ⟨S256x128x128, .f32⟩
  | 102 => ⟨S_, .f32⟩
  | 103 => ⟨S256x128x128, .f32⟩
  | 104 => ⟨S256x128x128, .f32⟩
  | 105 => ⟨S256x128x128, .f32⟩
  | 106 => ⟨S256x128x128, .f32⟩
  | 107 => ⟨S_, .f32⟩
  | 108 => ⟨S256x128, .f32⟩
  | 109 => ⟨S_, .f32⟩
  | 110 => ⟨S256x128, .f32⟩
  | 111 => ⟨S256x128, .i1⟩
  | 112 => ⟨S_, .f32⟩
  | 113 => ⟨S256x128, .f32⟩
  | 114 => ⟨S256x128, .f32⟩
  | 115 => ⟨S_, .f32⟩
  | 116 => ⟨S_, .f32⟩
  | 117 => ⟨S256x128, .f32⟩
  | 118 => ⟨S256x128, .f32⟩
  | 119 => ⟨S256x128x1, .f32⟩
  | 120 => ⟨S256x128x128, .f32⟩
  | 121 => ⟨S256x128x128, .f32⟩
  | 122 => ⟨S256x128x128, .f32⟩
  | 123 => ⟨S_, .f32⟩
  | 124 => ⟨S_, .f32⟩
  | 125 => ⟨S_, .f32⟩
  | 126 => ⟨S256x128x128, .f32⟩
  | 127 => ⟨S256x128x128, .f32⟩
  | _ => ⟨S12x256x8192, .i8⟩

abbrev hbmTy0_1 (i : Nat) : BufTy := match i % 128 with
  | 0 => ⟨S_, .f32⟩
  | 1 => ⟨S256x128x128, .f32⟩
  | 2 => ⟨S256x128x128, .f32⟩
  | 3 => ⟨S256x16384, .f32⟩
  | 4 => ⟨S256x16384, .f32⟩
  | 5 => ⟨S256x128x128, .i32⟩
  | 6 => ⟨S256x128x128, .i8⟩
  | 7 => ⟨S256x16384, .i8⟩
  | _ => ⟨S12x256x8192, .i8⟩

abbrev hbmTy (i : Nat) : BufTy := match i / 128 with
  | 0 => hbmTy0_0 i
  | 1 => hbmTy0_1 i
  | _ => ⟨S12x256x8192, .i8⟩

abbrev bufTy : (tb : Table) → Fin (tcTables nBuf tb) → BufTy
  | .hbm, ⟨i, _⟩ => hbmTy i
  | _, _ => ⟨S12x256x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_c_7 : Ref sig .tc := ⟨.hbm, 45, rfl⟩
abbrev main_v22 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_c_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v31 : Ref sig .tc := ⟨.hbm, 61, rfl⟩
abbrev main_c_12 : Ref sig .tc := ⟨.hbm, 62, rfl⟩
abbrev main_v32 : Ref sig .tc := ⟨.hbm, 63, rfl⟩
abbrev main_v33 : Ref sig .tc := ⟨.hbm, 64, rfl⟩
abbrev main_c_13 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_14 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_15 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_19 : Ref sig .tc := ⟨.hbm, 107, rfl⟩
abbrev main_v70 : Ref sig .tc := ⟨.hbm, 108, rfl⟩
abbrev main_cst_20 : Ref sig .tc := ⟨.hbm, 109, rfl⟩
abbrev main_v71 : Ref sig .tc := ⟨.hbm, 110, rfl⟩
abbrev main_v72 : Ref sig .tc := ⟨.hbm, 111, rfl⟩
abbrev main_cst_21 : Ref sig .tc := ⟨.hbm, 112, rfl⟩
abbrev main_v73 : Ref sig .tc := ⟨.hbm, 113, rfl⟩
abbrev main_v74 : Ref sig .tc := ⟨.hbm, 114, rfl⟩
abbrev main_cst_22 : Ref sig .tc := ⟨.hbm, 115, rfl⟩
abbrev main_call4_v0 : Ref sig .tc := ⟨.hbm, 116, rfl⟩
abbrev main_call4_v1 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_23 : Ref sig .tc := ⟨.hbm, 123, rfl⟩
abbrev main_cst_24 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩

abbrev nD : Nat := 1
abbrev τ : Topo := Topo.v7x

variable {F : FTy → Type} [FloatOps F]
-- ==== Proof.BitsRuns.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

/-! # What the runs of the kernel as it runs (floats as bit patterns) are stated over

The four branch conditions of the body as arithmetic of the grid point, the windows that are never idle,
the staging and scratch buffers by name, and the frame's post read from a run whose outputs may be
left unnamed. -/

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1320000 in
/-- THE FRAME from a frame run: for any proof data whose arrays are the region-entry contents (`hA`), a run to
    the library's `RDat.FramePost` read at the argument arrays — a staged input by the library's
    `RDat.FramePost.arr_in`, an array no window stages by the post's second clause, each then by `V_…` — is the frame
    claim's post (`Cert.frame_Kernel`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 4 rfl).trans ((hA c 4).trans (V_main_arg0 m c)),
      (Pipeline.RDat.FramePost.arr_in h c 5 rfl).trans ((hA c 5).trans (V_main_arg1 m c)),
      (Pipeline.RDat.FramePost.arr_in h c 0 rfl).trans ((hA c 0).trans (V_main_arg2 m c)),
      (Pipeline.RDat.FramePost.arr_in h c 6 rfl).trans ((hA c 6).trans (V_main_arg3 m c)),
      (Pipeline.RDat.FramePost.arr_in h c 7 rfl).trans ((hA c 7).trans (V_main_arg4 m c)),
      (Pipeline.RDat.FramePost.arr_in h c 8 rfl).trans ((hA c 8).trans (V_main_arg5 m c)),
      (Pipeline.RDat.FramePost.arr_in h c 9 rfl).trans ((hA c 9).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 10 rfl).trans ((hA c 10).trans (V_main_arg9 m c)),
      (Pipeline.RDat.FramePost.arr_in h c 11 rfl).trans ((hA c 11).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin cfg0.N, cond0_1 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points ≡ 15 (mod 16) — by arithmetic of the point. -/
theorem hcond0_2 : ∀ t : Fin cfg0.N, cond0_2 (grid0.coords t) ↔ t.val % 16 = 15 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ t.val % 16 = 15)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 32 = 31 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_3, k0_cond4, e0, e1]
    word_cmp
   : ∀ t : Fin grid0.N, cond0_3 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x128x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x3328 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x3328 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x1664 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x416 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S4x2x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x128 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S3x4x128x384 .f32 := Memref.whole cc0_scratch0
abbrev scM0_1 : Memref sig .tc .vmem S4x128x128 .f32 := Memref.whole cc0_scratch1
abbrev scM0_2 : Memref sig .tc .vmem S128x128 .f32 := Memref.whole cc0_scratch2
abbrev scM0_3 : Memref sig .tc .vmem S16x128x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Run

end
-- ==== Proof.BitsRunA.lean ====
module

public import proofs.«01_k».proof.Proof.BitsRuns

/-! # The whole body of the kernel as it runs (floats as bit patterns), run at the first grid point -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 13032000 in
/-- The body runs from whole buffers to its end; the inputs end as they were, every other buffer at some contents. -/
theorem kernelRun0_A (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_diloco_outer_step_eq_skeleton]; unfold cc0_diloco_outer_step_skel
    simp only [k0_part440_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part441_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part442_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part443_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part444_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part445_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part446_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BitsRunB.lean ====
module

public import proofs.«01_k».proof.Proof.BitsRunA

/-! # The whole body of the kernel as it runs (floats as bit patterns), run at the points that neither begin nor end a half -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 12032000 in
/-- The body runs from whole buffers to its end; the inputs end as they were, every other buffer at some contents. -/
theorem kernelRun0_B (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_diloco_outer_step_eq_skeleton]; unfold cc0_diloco_outer_step_skel
    simp only [k0_part440_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part441_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part442_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part443_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part444_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part445_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part446_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BitsRunD.lean ====
module

public import proofs.«01_k».proof.Proof.BitsRunA

/-! # The whole body of the kernel as it runs (floats as bit patterns), run at the first point of the second half -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 13024000 in
/-- The body runs from whole buffers to its end; the inputs end as they were, every other buffer at some contents. -/
theorem kernelRun0_D (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_diloco_outer_step_eq_skeleton]; unfold cc0_diloco_outer_step_skel
    simp only [k0_part440_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part441_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part442_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part443_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part444_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part445_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part446_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BitsRunC.lean ====
module

public import proofs.«01_k».proof.Proof.BitsRunA

/-! # The whole body of the kernel as it runs (floats as bit patterns), run at the last point of the first half -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 12284000 in
/-- The body runs from whole buffers to its end; the inputs end as they were, every other buffer at some contents. -/
theorem kernelRun0_C (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_diloco_outer_step_eq_skeleton]; unfold cc0_diloco_outer_step_skel
    simp only [k0_part440_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part441_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part442_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part443_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part444_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part445_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part446_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BitsRunE.lean ====
module

public import proofs.«01_k».proof.Proof.BitsRunC

/-! # The whole body of the kernel as it runs (floats as bit patterns), run at the last grid point -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 12660000 in
/-- The body runs from whole buffers to its end; the inputs end as they were, every other buffer at some contents. -/
theorem kernelRun0_E (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_diloco_outer_step_eq_skeleton]; unfold cc0_diloco_outer_step_skel
    simp only [k0_part440_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part441_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part442_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part443_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part444_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part445_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part446_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BitsFrame.lean ====
module

public import proofs.«01_k».proof.Proof.BitsRunB
public import proofs.«01_k».proof.Proof.BitsRunD
public import proofs.«01_k».proof.Proof.BitsRunE
public import Idealize.ShloMosaic.Lib.Claim

/-! # The frame of the kernel as it runs

From the five runs of the body: every grid point keeps its input blocks, the launch runs to its end, and the
arrays that are no results end as they began. -/

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17, 18, 19, 20, 21): nothing reads what the kernel leaves in them, so nothing
    of it is named (Lib/Pipeline/Dat.lean `Dat.toRForget`). -/
def forgets0 : Fin 22 → Bool := fun w => w.val == 12 || w.val == 13 || w.val == 14 || w.val == 15 || w.val == 16 || w.val == 17 || w.val == 18 || w.val == 19 || w.val == 20 || w.val == 21

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 12000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val % 16 = 0
  · by_cases h1 : t.val % 32 = 0
    · by_cases h2 : t.val % 16 = 15
      · exfalso; omega
      · by_cases h3 : t.val % 32 = 31
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, H21, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          iexact H21
    · by_cases h2 : t.val % 16 = 15
      · exfalso; omega
      · by_cases h3 : t.val % 32 = 31
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, H21, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          iexact H21
  · by_cases h1 : t.val % 32 = 0
    · exfalso; omega
    · by_cases h2 : t.val % 16 = 15
      · by_cases h3 : t.val % 32 = 31
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_E c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, H21, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          iexact H21
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, H21, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          iexact H21
      · by_cases h3 : t.val % 32 = 31
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, H21, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  rframe_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Run

end
-- ==== Proof.IdealRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

/-! # What the runs of the kernel read over the extended reals are stated over

The four branch conditions of the body as arithmetic of the grid point, the windows that are never idle,
the staging and scratch buffers by name, and the frame's post read from a run whose outputs may be
left unnamed. -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1320000 in
/-- THE FRAME from a frame run: for any proof data whose arrays are the region-entry contents (`hA`), a run to
    the library's `RDat.FramePost` read at the argument arrays — a staged input by the library's
    `RDat.FramePost.arr_in`, an array no window stages by the post's second clause, each then by `V_…` — is the frame
    claim's post (`Cert.frame_KernelIdeal`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 4 rfl).trans ((hA c 4).trans (V_main_arg0 m c)),
      (Pipeline.RDat.FramePost.arr_in h c 5 rfl).trans ((hA c 5).trans (V_main_arg1 m c)),
      (Pipeline.RDat.FramePost.arr_in h c 0 rfl).trans ((hA c 0).trans (V_main_arg2 m c)),
      (Pipeline.RDat.FramePost.arr_in h c 6 rfl).trans ((hA c 6).trans (V_main_arg3 m c)),
      (Pipeline.RDat.FramePost.arr_in h c 7 rfl).trans ((hA c 7).trans (V_main_arg4 m c)),
      (Pipeline.RDat.FramePost.arr_in h c 8 rfl).trans ((hA c 8).trans (V_main_arg5 m c)),
      (Pipeline.RDat.FramePost.arr_in h c 9 rfl).trans ((hA c 9).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 10 rfl).trans ((hA c 10).trans (V_main_arg9 m c)),
      (Pipeline.RDat.FramePost.arr_in h c 11 rfl).trans ((hA c 11).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin cfg0.N, cond0_1 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points ≡ 15 (mod 16) — by arithmetic of the point. -/
theorem hcond0_2 : ∀ t : Fin cfg0.N, cond0_2 (grid0.coords t) ↔ t.val % 16 = 15 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ t.val % 16 = 15)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 32 = 31 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_3, k0_cond4, e0, e1]
    word_cmp
   : ∀ t : Fin grid0.N, cond0_3 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Window 13 is never idle (an output stored at every point, under no condition). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-! ## The kernel body on any staging memrefs: a subtype the run finds -/

/-- One staging buffer of output window 12, through which its contents are stated (`View.read_writes_of_cover`: the
    choice does not matter). -/
abbrev VO0_12 : View sig .tc .vmem S128x1024 .f32 := (Memref.whole cc0_stg12_0 : Memref sig .tc .vmem S128x1024 .f32).view
/-- One staging buffer of output window 13, through which its contents are stated (`View.read_writes_of_cover`: the
    choice does not matter). -/
abbrev VO0_13 : View sig .tc .vmem S128x1024 .f32 := (Memref.whole cc0_stg13_0 : Memref sig .tc .vmem S128x1024 .f32).view
/-- One staging buffer of output window 14, through which its contents are stated (`View.read_writes_of_cover`: the
    choice does not matter). -/
abbrev VO0_14 : View sig .tc .vmem S128x1024 .i8 := (Memref.whole cc0_stg14_0 : Memref sig .tc .vmem S128x1024 .i8).view
/-- Each window's current staging memref at point `t`, spelled as the pipeline passes it (`bodyAt0`), and its wholeness. -/
abbrev ms0_0 (t : Fin cfg0.N) : Memref sig .tc .smem S12 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x128x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x3328 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x3328 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x1664 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x416 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S4x2x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x128 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S3x4x128x384 .f32 := Memref.whole cc0_scratch0
abbrev scM0_1 : Memref sig .tc .vmem S4x128x128 .f32 := Memref.whole cc0_scratch1
abbrev scM0_2 : Memref sig .tc .vmem S128x128 .f32 := Memref.whole cc0_scratch2
abbrev scM0_3 : Memref sig .tc .vmem S16x128x128 .f32 := Memref.whole cc0_scratch3
/-- The scratch `arg24` the kernel carries between points, as a view: what it holds is stated through it. -/
abbrev VS0_0 : View sig .tc .vmem S3x4x128x384 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Run

end
-- ==== Proof.IdealRunA.lean ====
module

public import proofs.«01_k».proof.Proof.IdealRuns

/-! # The whole body of the kernel read over the extended reals, run at the first grid point -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 13312000 in
/-- What the body leaves in the buffers of the first three outputs and of the weights scratch, as the lists of
    its stores (last first), with the proof that it runs from whole buffers to those. The inputs end as they
    were, the other outputs and scratches at some contents. -/
noncomputable def kernelRun0_A (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
    Σ' (L12 : List (View.Piece (Elt F) S128x1024 .f32)), Σ' (L13 : List (View.Piece (Elt F) S128x1024 .f32)), Σ' (L14 : List (View.Piece (Elt F) S128x1024 .i8)), { LS0 : List (View.Piece (Elt F) S3x4x128x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS0) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_diloco_outer_step_eq_skeleton]; unfold cc0_diloco_outer_step_skel
    simp only [k0_part439_eq_skeleton, k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part440_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part441_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part442_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part443_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part444_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part445_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Run

end
-- ==== Proof.Tile.lean ====
module

public import proofs.«01_k».proof.Proof.IdealRuns

/-! # One tile of the kernel, as vector operations

The body handles its 128 × 1024 block in 32 tiles of 32 rows by 128 columns: row group `g` (of 4), column pair `p`
(of 4), and the half `q` of the pair. Each tile decodes twelve byte tiles of codes to two 8-bit floats each, multiplies
them by the diagonal matrices of the weights (three splits, each in two stretches of the contraction), and updates the
momentum. These are the kernel's own operations, with `g`, `p`, `q` as parameters. -/

@[expose] public section

noncomputable section

namespace Cert.KernelIdeal.Tile

open Cert.KernelIdeal Cert.KernelIdeal.Gen
open Idealize.ShloMosaic Idealize.ShloMosaic.TcCoe

variable {F : FTy → Type} [FloatOps F] [Named F]

/-! ## The codes -/

/-- The low nibble of every byte as an 8-bit float. -/
def decLo (v : Vec F S1x32x128 .i8) : FVec F S32x128 .fp8e4m3 :=
  let w : IVec S8x128 32 := bitcast S8x128 32 (shapeCast S32x128 v shapeCasts_S1x32x128_S32x128) bitcasts_S32x128_w8_S8x128_w32
  let a : IVec S8x128 32 := andi (shli w (broadcast S8x128 3#32)) (broadcast S8x128 2021161080#32)
  bitcastToFloat .fp8e4m3 (bitcast S32x128 8 (addi a (andi a (broadcast S8x128 1077952576#32))) bitcasts_S8x128_w32_S32x128_w8)

/-- The high nibble of every byte as an 8-bit float. -/
def decHi (v : Vec F S1x32x128 .i8) : FVec F S32x128 .fp8e4m3 :=
  let w : IVec S8x128 32 := bitcast S8x128 32 (shapeCast S32x128 v shapeCasts_S1x32x128_S32x128) bitcasts_S32x128_w8_S8x128_w32
  let a : IVec S8x128 32 := andi (shrui w (broadcast S8x128 1#32)) (broadcast S8x128 2021161080#32)
  bitcastToFloat .fp8e4m3 (bitcast S32x128 8 (addi a (andi a (broadcast S8x128 1077952576#32))) bitcasts_S8x128_w32_S32x128_w8)

/-- Twelve tiles stacked. -/
def stack12 (v : Fin 12 → FVec F S32x128 .fp8e4m3) : FVec F S384x128 .fp8e4m3 :=
  concatenate S384x128 0 [⟨S32x128, v 0⟩, ⟨S32x128, v 1⟩, ⟨S32x128, v 2⟩, ⟨S32x128, v 3⟩, ⟨S32x128, v 4⟩, ⟨S32x128, v 5⟩,
    ⟨S32x128, v 6⟩, ⟨S32x128, v 7⟩, ⟨S32x128, v 8⟩, ⟨S32x128, v 9⟩, ⟨S32x128, v 10⟩, ⟨S32x128, v 11⟩]
    concatenates_S32x128_S32x128_S32x128_S32x128_S32x128_S32x128_S32x128_S32x128_S32x128_S32x128_S32x128_S32x128_S384x128_d0

/-- The right operand of the products: low nibbles on the left, high nibbles on the right. -/
def rhs (c : Fin 12 → Vec F S1x32x128 .i8) : FVec F S384x256 .fp8e4m3 :=
  concatenate S384x256 1 [⟨S384x128, stack12 fun k => decLo (c k)⟩, ⟨S384x128, stack12 fun k => decHi (c k)⟩]
    concatenates_S384x128_S384x128_S384x256_d1

/-! ## The diagonal matrices -/

/-- A third of a row of weights on the diagonals of a tile. -/
def onDiag (r : FVec F S1x128 .f32) : FVec F S32x128 .bf16 :=
  truncf .bf16 (select k0_pay156 (broadcastTo S32x128 (shapeCast S1x128 r shapeCasts_S1x128_S1x128) broadcasts_S1x128_S32x128)
    (broadcast S32x128 (Scalar.ofBits .f32 0x00000000#32))) bitsLt_bf16_f32

/-- A row of weights as twelve diagonal matrices side by side. -/
def lhs1 (r : Vec F S1x1x1x384 .f32) : FVec F S32x384 .bf16 :=
  let v : FVec F S1x384 .f32 := shapeCast S1x384 r shapeCasts_S1x1x1x384_S1x384
  concatenate S32x384 1 [⟨S32x128, onDiag (extractStridedSlice S1x128 ![0, 0] v slices_S1x384_o0_0_S1x128)⟩,
    ⟨S32x128, onDiag (extractStridedSlice S1x128 ![0, 128] v slices_S1x384_o0_128_S1x128)⟩,
    ⟨S32x128, onDiag (extractStridedSlice S1x128 ![0, 256] v slices_S1x384_o0_256_S1x128)⟩]
    concatenates_S32x128_S32x128_S32x128_S32x384_d1

/-- The left operand: the pair's two column blocks, one above the other. -/
def lhs (r0 r1 : Vec F S1x1x1x384 .f32) : FVec F S64x384 .bf16 :=
  concatenate S64x384 0 [⟨S32x384, lhs1 r0⟩, ⟨S32x384, lhs1 r1⟩] concatenates_S32x384_S32x384_S64x384_d0

/-- The product over the first eight workers. -/
def prodA (l : FVec F S64x384 .bf16) (b : FVec F S384x256 .fp8e4m3) : FVec F S64x256 .f32 :=
  matmul dot_S64x256_S256x256_S64x256_1_0_0_1_n_n none (extractStridedSlice S64x256 ![0, 0] l slices_S64x384_o0_0_S64x256)
    (extractStridedSlice S256x256 ![0, 0] b slices_S384x256_o0_0_S256x256) (constant S64x256 .f32 0x00000000#32)

/-- The product over the last four workers. -/
def prodB (l : FVec F S64x384 .bf16) (b : FVec F S384x256 .fp8e4m3) : FVec F S64x256 .f32 :=
  matmul dot_S64x128_S128x256_S64x256_1_0_0_1_n_n none (extractStridedSlice S64x128 ![0, 256] l slices_S64x384_o0_256_S64x128)
    (extractStridedSlice S128x256 ![256, 0] b slices_S384x256_o256_0_S128x256) (constant S64x256 .f32 0x00000000#32)

/-- The six products added, in the kernel's order. -/
def sum6 (l : Fin 3 → FVec F S64x384 .bf16) (b : FVec F S384x256 .fp8e4m3) : FVec F S64x256 .f32 :=
  addf (addf (addf (addf (addf (prodA (l 0) b) (prodB (l 0) b)) (prodA (l 1) b)) (prodB (l 1) b)) (prodA (l 2) b)) (prodB (l 2) b)

/-- One half of the pair out of the products: low nibbles fill the left 64 lanes, high nibbles the right. -/
def pick (q : Fin 2) (d : FVec F S64x256 .f32) : FVec F S32x128 .f32 :=
  match q with
  | 0 => select k0_pay151 (extractStridedSlice S32x128 ![0, 0] d slices_S64x256_o0_0_S32x128)
      (dynamicRotate 1 64#32 none (extractStridedSlice S32x128 ![0, 128] d slices_S64x256_o0_128_S32x128) rotates_S32x128_d1)
  | 1 => select k0_pay151 (dynamicRotate 1 64#32 none (extractStridedSlice S32x128 ![32, 0] d slices_S64x256_o32_0_S32x128) rotates_S32x128_d1)
      (extractStridedSlice S32x128 ![32, 128] d slices_S64x256_o32_128_S32x128)

/-! ## The update -/

/-- The amount the row of momentum scales is rotated by. -/
def rotAmt (i : grid0.Coords) : BitVec 32 :=
  let a : BitVec 32 := Scalar.subi 128#32 (Scalar.muli (BitVec.ofNat 32 (i 1).val) 8#32)
  let b : BitVec 32 := Scalar.select (Scalar.cmpi .eq 128#32 0#32) 1#32 128#32
  let r : BitVec 32 := Scalar.remsi a b
  Scalar.select (Scalar.andi (Scalar.xori (Scalar.cmpi .slt r 0#32) (Scalar.cmpi .slt b 0#32)) (Scalar.cmpi .ne r 0#32))
    (Scalar.addi r b) r

/-- Column `c` of the rotated scales over a whole tile. -/
def scaleCol (c : ℕ) (h : S32x128.Slices ![0, c] S32x1) (ms : FVec F S32x128 .f32) : FVec F S32x128 .f32 :=
  broadcastTo S32x128 (extractStridedSlice S32x1 ![0, c] ms h) broadcasts_S32x1_S32x128

/-- The new momentum of a tile. -/
def bNew (col : FVec F S32x128 .f32) (mc : Vec F S32x128 .i8) (d : FVec F S32x128 .f32) : FVec F S32x128 .f32 :=
  addf (mulf (broadcast S32x128 (Scalar.ofBits .f32 0x3F666666#32)) (mulf (sitofp .f32 mc) col)) d

/-- The new global value of a tile. -/
def outerT (lr : Elt F .f32) (ga d b : FVec F S32x128 .f32) : FVec F S32x128 .f32 :=
  subf ga (mulf (broadcast S32x128 lr) (addf d (mulf (broadcast S32x128 (Scalar.ofBits .f32 0x3F666666#32)) b)))

/-- The merged value of a tile. -/
def mergedT (la : Vec F S32x128 .bf16) (o : FVec F S32x128 .f32) : FVec F S32x128 .f32 :=
  addf (mulf (broadcast S32x128 (Scalar.ofBits .f32 0x3F000000#32)) (extf .f32 la bitsLt_bf16_f32))
    (mulf (broadcast S32x128 (Scalar.ofBits .f32 0x3F000000#32)) o)

/-- The scale of each row of a tile. -/
def scaleT (b : FVec F S32x128 .f32) : FVec F S32x1 .f32 :=
  let a : FVec F S32x1 .f32 := shapeCast S32x1 (multiReduction .maximumf [1] S32 (absf b) 0xFF800000#32 reduces_S32x128_S32 (.inl rfl) rfl) shapeCasts_S32_S32x1
  select (cmpf .oeq a (broadcast S32x1 (Scalar.ofBits .f32 0x00000000#32))) (broadcast S32x1 (Scalar.ofBits .f32 0x3F800000#32))
    (divf a (broadcast S32x1 (Scalar.ofBits .f32 0x42FE0000#32)))

/-- The codes of a tile. -/
def codesT (b : FVec F S32x128 .f32) : IVec S32x128 8 :=
  fptosi 8 (minimumf (broadcast S32x128 (Scalar.ofBits .f32 0x42FE0000#32))
    (maximumf (broadcast S32x128 (Scalar.ofBits .f32 0xC2FE0000#32))
      (roundeven (divf b (broadcastTo S32x128 (scaleT b) broadcasts_S32x1_S32x128)))))

/-! ## A tile of the block -/

theorem inbCode : ∀ (k : Fin 12) (g p : Fin 4), ∀ a, (![k.val, 32 * g.val, 128 * p.val] : Fin 3 → ℕ) a + S1x32x128.size a ≤ S12x128x512.size a := by decide +kernel
theorem inbTile : ∀ (g p : Fin 4) (q : Fin 2), ∀ a, (![32 * g.val, 256 * p.val + 128 * q.val] : Fin 2 → ℕ) a + S32x128.size a ≤ S128x1024.size a := by decide +kernel
theorem inbScale : ∀ (g : Fin 4), ∀ a, (![32 * g.val, 0] : Fin 2 → ℕ) a + S32x128.size a ≤ S128x128.size a := by decide +kernel
theorem slicesCol : ∀ (p : Fin 4) (q : Fin 2), S32x128.Slices ![0, 2 * p.val + q.val] S32x1 := by decide +kernel

/-- Where the row of weights for split `s`, group `g`, pair `p`, half `q` lies. -/
def offW (i : grid0.Coords) (s : Fin 3) (g p : Fin 4) (q : Fin 2) : Fin 4 → ℕ :=
  match g, s with
  | 0, 0 => k0_off1 i (BitVec.ofNat 32 (2 * p.val)) (BitVec.ofNat 32 q.val)
  | 0, 1 => k0_off2 i (BitVec.ofNat 32 (2 * p.val)) (BitVec.ofNat 32 q.val)
  | 0, 2 => k0_off3 i (BitVec.ofNat 32 (2 * p.val)) (BitVec.ofNat 32 q.val)
  | 1, 0 => k0_off4 i (BitVec.ofNat 32 (2 * p.val)) (BitVec.ofNat 32 q.val)
  | 1, 1 => k0_off5 i (BitVec.ofNat 32 (2 * p.val)) (BitVec.ofNat 32 q.val)
  | 1, 2 => k0_off6 i (BitVec.ofNat 32 (2 * p.val)) (BitVec.ofNat 32 q.val)
  | 2, 0 => k0_off7 i (BitVec.ofNat 32 (2 * p.val)) (BitVec.ofNat 32 q.val)
  | 2, 1 => k0_off8 i (BitVec.ofNat 32 (2 * p.val)) (BitVec.ofNat 32 q.val)
  | 2, 2 => k0_off9 i (BitVec.ofNat 32 (2 * p.val)) (BitVec.ofNat 32 q.val)
  | 3, 0 => k0_off10 i (BitVec.ofNat 32 (2 * p.val)) (BitVec.ofNat 32 q.val)
  | 3, 1 => k0_off11 i (BitVec.ofNat 32 (2 * p.val)) (BitVec.ofNat 32 q.val)
  | 3, 2 => k0_off12 i (BitVec.ofNat 32 (2 * p.val)) (BitVec.ofNat 32 q.val)

theorem offW_eq : ∀ (i : grid0.Coords) (s : Fin 3) (g p : Fin 4) (q : Fin 2),
    offW i s g p q = ![s.val, g.val, 8 * (i 1).val + (2 * p.val + q.val), 0] := by decide +kernel

theorem inbW (i : grid0.Coords) (s : Fin 3) (g p : Fin 4) (q : Fin 2) :
    ∀ a, offW i s g p q a + S1x1x1x384.size a ≤ S3x4x128x384.size a := by
  rw [offW_eq]; revert i s g p q; decide +kernel

/-- The codes of a tile, as loaded. -/
def cT (x4 : Vec F S12x128x512 .i8) (g p : Fin 4) (k : Fin 12) : Vec F S1x32x128 .i8 :=
  View.ld x4 (Rect.unit (s := S12x128x512) ![k.val, 32 * g.val, 128 * p.val] S1x32x128.size (inbCode k g p))

/-- The weights of a pair, as loaded. -/
def wT (i : grid0.Coords) (wt : Vec F S3x4x128x384 .f32) (g p : Fin 4) (s : Fin 3) (q : Fin 2) : Vec F S1x1x1x384 .f32 :=
  View.ld wt (Rect.unit (s := S3x4x128x384) (offW i s g p q) S1x1x1x384.size (inbW i s g p q))

/-- A tile of a 128 × 1024 block. -/
def tT {e : EltTy} (x : Vec F S128x1024 e) (g p : Fin 4) (q : Fin 2) : Vec F S32x128 e :=
  View.ld x (Rect.unit (s := S128x1024) ![32 * g.val, 256 * p.val + 128 * q.val] S32x128.size (inbTile g p q))

/-- The weighted sum of the decoded deltas on a tile. -/
def dT (i : grid0.Coords) (x4 : Vec F S12x128x512 .i8) (wt : Vec F S3x4x128x384 .f32) (g p : Fin 4) (q : Fin 2) : FVec F S32x128 .f32 :=
  pick q (sum6 (fun s => lhs (wT i wt g p s 0) (wT i wt g p s 1)) (rhs (cT x4 g p)))

/-- The new momentum on a tile. -/
def bT (i : grid0.Coords) (x4 : Vec F S12x128x512 .i8) (x8 : Vec F S128x1024 .i8) (x9 : Vec F S128x128 .f32)
    (wt : Vec F S3x4x128x384 .f32) (g p : Fin 4) (q : Fin 2) : FVec F S32x128 .f32 :=
  bNew (scaleCol (2 * p.val + q.val) (slicesCol p q) (dynamicRotate 1 (rotAmt i) none
      (View.ld x9 (Rect.unit (s := S128x128) ![32 * g.val, 0] S32x128.size (inbScale g))) rotates_S32x128_d1))
    (tT x8 g p q) (dT i x4 wt g p q)

/-- The first output on a tile. -/
def o12 (i : grid0.Coords) (lr : Elt F .f32) (x4 : Vec F S12x128x512 .i8) (x6 : Vec F S128x1024 .f32) (x8 : Vec F S128x1024 .i8)
    (x9 : Vec F S128x128 .f32) (wt : Vec F S3x4x128x384 .f32) (g p : Fin 4) (q : Fin 2) : FVec F S32x128 .f32 :=
  outerT lr (tT x6 g p q) (dT i x4 wt g p q) (bT i x4 x8 x9 wt g p q)

/-- The second output on a tile. -/
def o13 (i : grid0.Coords) (lr : Elt F .f32) (x4 : Vec F S12x128x512 .i8) (x6 : Vec F S128x1024 .f32) (x7 : Vec F S128x1024 .bf16)
    (x8 : Vec F S128x1024 .i8) (x9 : Vec F S128x128 .f32) (wt : Vec F S3x4x128x384 .f32) (g p : Fin 4) (q : Fin 2) : FVec F S32x128 .f32 :=
  mergedT (tT x7 g p q) (o12 i lr x4 x6 x8 x9 wt g p q)

/-- The third output on a tile. -/
def o14 (i : grid0.Coords) (x4 : Vec F S12x128x512 .i8) (x8 : Vec F S128x1024 .i8)
    (x9 : Vec F S128x128 .f32) (wt : Vec F S3x4x128x384 .f32) (g p : Fin 4) (q : Fin 2) : IVec S32x128 8 :=
  codesT (bT i x4 x8 x9 wt g p q)

/-- The tiles in the order of the list of stores, last first. -/
def order : List (Fin 4 × Fin 4 × Fin 2) :=
  [(3, 3, 1), (3, 3, 0), (3, 2, 1), (3, 2, 0), (3, 1, 1), (3, 1, 0), (3, 0, 1), (3, 0, 0),
   (2, 3, 1), (2, 3, 0), (2, 2, 1), (2, 2, 0), (2, 1, 1), (2, 1, 0), (2, 0, 1), (2, 0, 0),
   (1, 3, 1), (1, 3, 0), (1, 2, 1), (1, 2, 0), (1, 1, 1), (1, 1, 0), (1, 0, 1), (1, 0, 0),
   (0, 3, 1), (0, 3, 0), (0, 2, 1), (0, 2, 0), (0, 1, 1), (0, 1, 0), (0, 0, 1), (0, 0, 0)]

/-- The stores of a block, one per tile. -/
def stores {e : EltTy} (f : Fin 4 → Fin 4 → Fin 2 → Vec F S32x128 e) : List (View.Piece (Elt F) S128x1024 e) :=
  order.map fun t => ⟨Rect.unit (s := S128x1024) ![32 * t.1.val, 256 * t.2.1.val + 128 * t.2.2.val] S32x128.size (inbTile t.1 t.2.1 t.2.2), f t.1 t.2.1 t.2.2⟩

end Cert.KernelIdeal.Tile

end
-- ==== Proof.Weights.lean ====
module

public import proofs.«01_k».proof.Proof.Tile

/-! # The weights scratch, as vector operations

At the first point of each half the body fills its scratch of weights: for every row group `g` (of 4) and third `t` of
the workers, the product of the worker's weight and its group scale, transposed, cut into three splits. These are the
kernel's own operations, with `g`, `t` and the split `s` as parameters. -/

@[expose] public section

noncomputable section

namespace Cert.KernelIdeal.Tile

open Cert.KernelIdeal Cert.KernelIdeal.Gen
open Idealize.ShloMosaic Idealize.ShloMosaic.TcCoe

variable {F : FTy → Type} [FloatOps F] [Named F]

theorem inbWord : ∀ (k : Fin 12), ∀ a, (![k.val] : Fin 1 → ℕ) a + S1.size a ≤ S12.size a := by decide +kernel
theorem inbScaleRow : ∀ (k : Fin 12) (g : Fin 4), ∀ a, (![k.val, 32 * g.val, 0] : Fin 3 → ℕ) a + S1x32x128.size a ≤ S12x128x128.size a := by decide +kernel
theorem inbSplit : ∀ (s : Fin 3) (g : Fin 4) (t : Fin 3), ∀ a, (![s.val, g.val, 0, 128 * t.val] : Fin 4 → ℕ) a + S1x1x128x128.size a ≤ S3x4x128x384.size a := by decide +kernel

/-- Worker `k` of third `t`, the `u`-th of four. -/
def worker (t : Fin 3) (u : Fin 4) : Fin 12 := ⟨4 * t.val + u.val, by omega⟩

/-- The weight of a worker. -/
def word12 (x0 : Vec F S12 .f32) (k : Fin 12) : Elt F .f32 :=
  View.ld x0 (Rect.unit (s := S12) ![k.val] S1.size (inbWord k)) (Shape.Idx.first (numel1_S1.symm ▸ Nat.one_pos))

/-- The learning rate. -/
def word1 (x1 : Vec F S1 .f32) : Elt F .f32 :=
  View.ld x1 (Rect.unit (s := S1) ![0] S1.size inb_S1_S1_0) (Shape.Idx.first (numel1_S1.symm ▸ Nat.one_pos))

/-- A worker's weight times its scales of one row group. -/
def weighted (x0 : Vec F S12 .f32) (x5 : Vec F S12x128x128 .f32) (g : Fin 4) (k : Fin 12) : FVec F S32x128 .f32 :=
  mulf (broadcast S32x128 (word12 x0 k)) (shapeCast S32x128
    (View.ld x5 (Rect.unit (s := S12x128x128) ![k.val, 32 * g.val, 0] S1x32x128.size (inbScaleRow k g))) shapeCasts_S1x32x128_S32x128)

/-- Four workers' weights, one below the other, transposed. -/
def prod4 (x0 : Vec F S12 .f32) (x5 : Vec F S12x128x128 .f32) (g : Fin 4) (t : Fin 3) : FVec F S128x128 .f32 :=
  transpose S128x128 [1, 0] (concatenate S128x128 0 [⟨S32x128, weighted x0 x5 g (worker t 0)⟩, ⟨S32x128, weighted x0 x5 g (worker t 1)⟩,
    ⟨S32x128, weighted x0 x5 g (worker t 2)⟩, ⟨S32x128, weighted x0 x5 g (worker t 3)⟩] concatenates_S32x128_S32x128_S32x128_S32x128_S128x128_d0)
    transposes_S128x128_p1_0_S128x128

/-- The leading bits of each value. -/
def lead (v : FVec F S128x128 .f32) : FVec F S128x128 .f32 := extf .f32 (truncf .bf16 v bitsLt_bf16_f32) bitsLt_bf16_f32

/-- The three splits of a value: its leading bits, those of what is left, and those of what is then left. -/
def split (v : FVec F S128x128 .f32) (s : Fin 3) : FVec F S128x128 .f32 :=
  match s with
  | 0 => lead v
  | 1 => lead (subf v (lead v))
  | 2 => lead (subf (subf v (lead v)) (lead (subf v (lead v))))

/-- What is stored for split `s`, row group `g`, third `t`. -/
def wTile (x0 : Vec F S12 .f32) (x5 : Vec F S12x128x128 .f32) (s : Fin 3) (g : Fin 4) (t : Fin 3) : FVec F S1x1x128x128 .f32 :=
  shapeCast S1x1x128x128 (split (prod4 x0 x5 g t) s) shapeCasts_S128x128_S1x1x128x128

/-- The stores in their order, last first, as row group, third, split. -/
def orderW : List (Fin 4 × Fin 3 × Fin 3) :=
  [(3, 2, 2), (3, 2, 1), (3, 2, 0), (3, 1, 2), (3, 1, 1), (3, 1, 0), (3, 0, 2), (3, 0, 1), (3, 0, 0),
   (2, 2, 2), (2, 2, 1), (2, 2, 0), (2, 1, 2), (2, 1, 1), (2, 1, 0), (2, 0, 2), (2, 0, 1), (2, 0, 0),
   (1, 2, 2), (1, 2, 1), (1, 2, 0), (1, 1, 2), (1, 1, 1), (1, 1, 0), (1, 0, 2), (1, 0, 1), (1, 0, 0),
   (0, 2, 2), (0, 2, 1), (0, 2, 0), (0, 1, 2), (0, 1, 1), (0, 1, 0), (0, 0, 2), (0, 0, 1), (0, 0, 0)]

/-- The stores into the scratch of weights. -/
def wStores (f : Fin 3 → Fin 4 → Fin 3 → Vec F S1x1x128x128 .f32) : List (View.Piece (Elt F) S3x4x128x384 .f32) :=
  orderW.map fun a => ⟨Rect.unit (s := S3x4x128x384) ![a.2.2.val, a.1.val, 0, 128 * a.2.1.val] S1x1x128x128.size (inbSplit a.2.2 a.1 a.2.1), f a.2.2 a.1 a.2.1⟩

end Cert.KernelIdeal.Tile

end
-- ==== Proof.Blocks.lean ====
module

public import proofs.«01_k».proof.Proof.Weights
public import Idealize.ShloMosaic.Lib.Pointwise
public import Idealize.ShloMosaic.Lib.Writes
public import Idealize.ShloMosaic.Lib.Ring
public import Idealize.ShloMosaic.Lib.Tactic

/-! # Blocks put together from their tiles

What a buffer holds after all its tiles are stored: at every index the value its tile has there. -/

@[expose] public section

set_option maxRecDepth 16384

noncomputable section

namespace Cert.KernelIdeal.Tile

open Cert.KernelIdeal Cert.KernelIdeal.Gen
open Idealize.ShloMosaic Idealize.ShloMosaic.TcCoe

variable {F : FTy → Type} [FloatOps F] [Named F]

/-- A 128 × 1024 block from its 32 × 128 tiles. -/
def ofTiles {e : EltTy} (f : Fin 4 → Fin 4 → Fin 2 → Vec F S32x128 e) : Vec F S128x1024 e := fun y =>
  have h0 : (y 0).val < 128 := (y 0).isLt
  have h1 : (y 1).val < 1024 := (y 1).isLt
  f ⟨(y 0).val / 32, by omega⟩ ⟨(y 1).val / 256, by omega⟩ ⟨(y 1).val / 128 % 2, by omega⟩
    (ix2 ⟨(y 0).val % 32, by omega⟩ ⟨(y 1).val % 128, by omega⟩)

/-- The weights scratch from its 128 × 128 tiles. -/
def ofSplits (f : Fin 3 → Fin 4 → Fin 3 → Vec F S1x1x128x128 .f32) : Vec F S3x4x128x384 .f32 := fun y =>
  have h3 : (y 3).val < 384 := (y 3).isLt
  f (y 0) (y 1) ⟨(y 3).val / 128, by omega⟩ (ix4 0 0 (y 2) ⟨(y 3).val % 128, by omega⟩)

/-- A coordinate of a place in a rectangle of consecutive indices. -/
theorem embUnit {s : Shape} (off size : Fin s.rank → ℕ) (inb : ∀ a, off a + size a ≤ s.size a) (j : (Rect.unit off size inb).shape.Idx) (a : Fin s.rank) :
    ((Rect.unit off size inb).emb j a).val = off a + (j a).val := by
  rw [Rect.emb_apply]
  simp [Rect.unit]

/-- A block at an index, by the tile and the place in it. -/
theorem ofTiles_at {e : EltTy} (f : Fin 4 → Fin 4 → Fin 2 → Vec F S32x128 e) (y : S128x1024.Idx) (g c : Fin 4) (q : Fin 2) (r : Fin 32)
    (l : Fin 128) (e0 : (y 0).val = 32 * g.val + r.val) (e1 : (y 1).val = 256 * c.val + 128 * q.val + l.val) :
    ofTiles f y = f g c q (ix2 r l) := by
  have hr := r.isLt
  have hl := l.isLt
  have hq := q.isLt
  have a0 : (y 0).val / 32 = g.val := by rw [e0]; omega
  have a1 : (y 1).val / 256 = c.val := by rw [e1]; omega
  have a2 : (y 1).val / 128 % 2 = q.val := by rw [e1]; omega
  have a3 : (y 0).val % 32 = r.val := by rw [e0]; omega
  have a4 : (y 1).val % 128 = l.val := by rw [e1]; omega
  simp only [ofTiles, a0, a1, a2, a3, a4]

/-- The scratch at an index, by the tile and the place in it. -/
theorem ofSplits_at (f : Fin 3 → Fin 4 → Fin 3 → Vec F S1x1x128x128 .f32) (y : S3x4x128x384.Idx) (s : Fin 3) (g : Fin 4) (t : Fin 3)
    (r l : Fin 128) (e0 : (y 0).val = s.val) (e1 : (y 1).val = g.val) (e2 : (y 2).val = r.val) (e3 : (y 3).val = 128 * t.val + l.val) :
    ofSplits f y = f s g t (ix4 0 0 r l) := by
  have hl := l.isLt
  have a0 : y 0 = s := Fin.ext e0
  have a1 : y 1 = g := Fin.ext e1
  have a2 : y 2 = r := Fin.ext e2
  have a3 : (y 3).val / 128 = t.val := by rw [e3]; omega
  have a4 : (y 3).val % 128 = l.val := by rw [e3]; omega
  simp only [ofSplits, a0, a1, a2, a3, a4]

/-- Every store of a tile is the block's value there. -/
theorem stores_apply {e : EltTy} (f : Fin 4 → Fin 4 → Fin 2 → Vec F S32x128 e) :
    ∀ p ∈ stores f, ∀ x : p.1.shape.Idx, p.2 x = ofTiles f (p.1.emb x) := by
  intro p hp x
  obtain ⟨a, -, rfl⟩ := List.mem_map.mp hp
  have ex : x = ix2 (x 0) (x 1) := eq_ix2 (n0 := 32) (n1 := 128) x
  refine (congrArg (f a.1 a.2.1 a.2.2) ex).trans (ofTiles_at f _ a.1 a.2.1 a.2.2 (x 0) (x 1) ?_ ?_).symm
  · exact embUnit _ _ (inbTile a.1 a.2.1 a.2.2) x 0
  · exact embUnit _ _ (inbTile a.1 a.2.1 a.2.2) x 1

/-- Every store into the scratch is the scratch's value there. -/
theorem wStores_apply (f : Fin 3 → Fin 4 → Fin 3 → Vec F S1x1x128x128 .f32) :
    ∀ p ∈ wStores f, ∀ x : p.1.shape.Idx, p.2 x = ofSplits f (p.1.emb x) := by
  intro p hp x
  obtain ⟨a, -, rfl⟩ := List.mem_map.mp hp
  have e0 : x 0 = (0 : Fin 1) := Subsingleton.elim (α := Fin 1) _ _
  have e1 : x 1 = (0 : Fin 1) := Subsingleton.elim (α := Fin 1) _ _
  have ex : x = ix4 0 0 (x 2) (x 3) := (eq_ix4 (n0 := 1) (n1 := 1) (n2 := 128) (n3 := 128) x).trans (by rw [e0, e1]; rfl)
  refine (congrArg (f a.2.2 a.1 a.2.1) ex).trans (ofSplits_at f _ a.2.2 a.1 a.2.1 (x 2) (x 3) ?_ ?_ ?_ ?_).symm
  · exact (embUnit _ _ (inbSplit a.2.2 a.1 a.2.1) x 0).trans (by rw [e0]; rfl)
  · exact (embUnit _ _ (inbSplit a.2.2 a.1 a.2.1) x 1).trans (by rw [e1]; rfl)
  · exact (embUnit _ _ (inbSplit a.2.2 a.1 a.2.1) x 2).trans (Nat.zero_add _)
  · exact embUnit _ _ (inbSplit a.2.2 a.1 a.2.1) x 3

/-- The tiles are all of the block. -/
theorem stores_cover {e : EltTy} (f : Fin 4 → Fin 4 → Fin 2 → Vec F S32x128 e) (y : S128x1024.Idx) : ∃ p ∈ stores f, y ∈ p.1.set :=
  View.cover_of_tiledL (stores f) S32x128.size (by sl_kernel_rfl) y

/-- The tiles of the scratch are all of it. -/
theorem wStores_cover (f : Fin 3 → Fin 4 → Fin 3 → Vec F S1x1x128x128 .f32) (y : S3x4x128x384.Idx) : ∃ p ∈ wStores f, y ∈ p.1.set :=
  View.cover_of_tiledL (wStores f) S1x1x128x128.size (by sl_kernel_rfl) y

/-- The buffer after a block's stores holds the block. -/
theorem read_stores {sig' : RefSig} {κ : Kind} {sp : Space} {e : EltTy} (v : View sig' κ sp S128x1024 e) (b : v.ty.Contents (Elt F))
    (f : Fin 4 → Fin 4 → Fin 2 → Vec F S32x128 e) (L : List (View.Piece (Elt F) S128x1024 e)) (hL : L = stores f) :
    v.read (Elt F) (v.writes (Elt F) b L) = ofTiles f := by
  subst hL
  exact funext fun y => View.read_writes_apply_of_pieces v b _ _ (stores_apply f) y (stores_cover f y)

/-- The scratch after its stores. -/
theorem read_wStores {sig' : RefSig} {κ : Kind} {sp : Space} (v : View sig' κ sp S3x4x128x384 .f32) (b : v.ty.Contents (Elt F))
    (f : Fin 3 → Fin 4 → Fin 3 → Vec F S1x1x128x128 .f32) (L : List (View.Piece (Elt F) S3x4x128x384 .f32)) (hL : L = wStores f) :
    v.read (Elt F) (v.writes (Elt F) b L) = ofSplits f := by
  subst hL
  exact funext fun y => View.read_writes_apply_of_pieces v b _ _ (wStores_apply f) y (wStores_cover f y)

end Cert.KernelIdeal.Tile

end
-- ==== Proof.Step.lean ====
module

public import proofs.«01_k».proof.Proof.IdealRuns
public import proofs.«01_k».proof.Proof.Blocks

/-! # From a run of the body to what it leaves

A run of the body leaves its first three outputs as lists of stores. Where those are the tiles of the specification,
the buffers hold its blocks. -/

@[expose] public section

set_option maxRecDepth 16384

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The weights scratch, from the weights and the scales of one half. -/
def wtOf (x0 : Vec F S12 .f32) (x5 : Vec F S12x128x128 .f32) : Vec F S3x4x128x384 .f32 := ofSplits (wTile x0 x5)

/-- A run of the body over inputs at given contents, whose first three outputs end as the lists `L12`, `L13`, `L14` of
    stores, and whose weights scratch goes from `P24` to `Q24`. -/
def RunsTo (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (L12 L13 : List (View.Piece (Elt F) S128x1024 .f32)) (L14 : List (View.Piece (Elt F) S128x1024 .i8)) (P24 Q24 : sProp 𝕄) : Prop :=
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ P24 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ Q24 ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K

/-- The body's step over the specification: the first three outputs end at the blocks of the tiles `f12`, `f13`, `f14`,
    and the weights scratch, from the contents `xs0`, ends at `wtOf x0 x5`. -/
def StepsTo (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32)
    (f12 f13 : Fin 4 → Fin 4 → Fin 2 → Vec F S32x128 .f32) (f14 : Fin 4 → Fin 4 → Fin 2 → Vec F S32x128 .i8) : Prop :=
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (ofTiles f12) ∗ owns (c : Thread nD τ) arg15 fullShare (ofTiles f13) ∗ owns (c : Thread nD τ) arg16 fullShare (ofTiles f14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare (wtOf x0 x5) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K

set_option maxHeartbeats 4000000 in
/-- A run whose lists of stores are the specification's is a step over the specification. -/
theorem RunsTo.steps {c : Dev nD} {i : grid0.Coords} {arg2 : Memref sig .tc .smem S12 .f32} {harg2 : arg2.IsWhole} {arg3 : Memref sig .tc .smem S1 .f32} {harg3 : arg3.IsWhole} {arg4 : Memref sig .tc .vmem S2x128 .i32} {harg4 : arg4.IsWhole} {arg5 : Memref sig .tc .vmem S2x128 .i32} {harg5 : arg5.IsWhole} {arg6 : Memref sig .tc .vmem S12x128x512 .i8} {harg6 : arg6.IsWhole} {arg7 : Memref sig .tc .vmem S12x128x128 .f32} {harg7 : arg7.IsWhole} {arg8 : Memref sig .tc .vmem S128x1024 .f32} {harg8 : arg8.IsWhole} {arg9 : Memref sig .tc .vmem S128x1024 .bf16} {harg9 : arg9.IsWhole} {arg10 : Memref sig .tc .vmem S128x1024 .i8} {harg10 : arg10.IsWhole} {arg11 : Memref sig .tc .vmem S128x128 .f32} {harg11 : arg11.IsWhole} {arg12 : Memref sig .tc .vmem S128x3328 .f32} {harg12 : arg12.IsWhole} {arg13 : Memref sig .tc .vmem S128x3328 .bf16} {harg13 : arg13.IsWhole} {arg14 : Memref sig .tc .vmem S128x1024 .f32} {harg14 : arg14.IsWhole} {arg15 : Memref sig .tc .vmem S128x1024 .f32} {harg15 : arg15.IsWhole} {arg16 : Memref sig .tc .vmem S128x1024 .i8} {harg16 : arg16.IsWhole} {arg17 : Memref sig .tc .vmem S128x128 .f32} {harg17 : arg17.IsWhole} {arg18 : Memref sig .tc .vmem S128x1024 .fp8e4m3} {harg18 : arg18.IsWhole} {arg19 : Memref sig .tc .vmem S2x128 .f32} {harg19 : arg19.IsWhole} {arg20 : Memref sig .tc .vmem S128x1664 .i8} {harg20 : arg20.IsWhole} {arg21 : Memref sig .tc .vmem S128x416 .f32} {harg21 : arg21.IsWhole} {arg22 : Memref sig .tc .vmem S4x2x128 .f32} {harg22 : arg22.IsWhole} {arg23 : Memref sig .tc .vmem S4x128 .f32} {harg23 : arg23.IsWhole} {arg24 : Memref sig .tc .vmem S3x4x128x384 .f32} {harg24 : arg24.IsWhole} {arg25 : Memref sig .tc .vmem S4x128x128 .f32} {harg25 : arg25.IsWhole} {arg26 : Memref sig .tc .vmem S128x128 .f32} {harg26 : arg26.IsWhole} {arg27 : Memref sig .tc .vmem S16x128x128 .f32} {harg27 : arg27.IsWhole}
    {x0 : Vec F S12 .f32} {x1 : Vec F S1 .f32} {x2 : Vec F S2x128 .i32} {x3 : Vec F S2x128 .i32} {x4 : Vec F S12x128x512 .i8} {x5 : Vec F S12x128x128 .f32} {x6 : Vec F S128x1024 .f32} {x7 : Vec F S128x1024 .bf16} {x8 : Vec F S128x1024 .i8} {x9 : Vec F S128x128 .f32} {x10 : Vec F S128x3328 .f32} {x11 : Vec F S128x3328 .bf16} {L12 L13 : List (View.Piece (Elt F) S128x1024 .f32)} {L14 : List (View.Piece (Elt F) S128x1024 .i8)} {P24 Q24 : sProp 𝕄}
    (hrun : RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 L12 L13 L14 P24 Q24) {xs0 : Vec F S3x4x128x384 .f32}
    {f12 f13 : Fin 4 → Fin 4 → Fin 2 → Vec F S32x128 .f32} {f14 : Fin 4 → Fin 4 → Fin 2 → Vec F S32x128 .i8}
    (h12 : L12 = stores f12) (h13 : L13 = stores f13) (h14 : L14 = stores f14)
    (hpre : owns (c : Thread nD τ) arg24 fullShare xs0 ⊢ P24) (hpost : Q24 ⊢ owns (c : Thread nD τ) arg24 fullShare (wtOf x0 x5)) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 f12 f13 f14 := by
  unfold RunsTo at hrun
  unfold StepsTo
  intro E K
  iintro ⟨H0, H1, H2, H3, H4, H5, H6, H7, H8, H9, H10, H11, H12, H13, H14, H15, H16, H17, H18, H19, H20, H21, HS0, HS1, HS2, HS3, Hk⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HS0]; · iapply hpre; iexact HS0
  isplitl [HS1]; · iexact HS1
  isplitl [HS2]; · iexact HS2
  isplitl [HS3]; · iexact HS3
  iintro ⟨H0, H1, H2, H3, H4, H5, H6, H7, H8, H9, H10, H11, ⟨%e12, H12⟩, ⟨%e13, H13⟩, ⟨%e14, H14⟩, H15, H16, H17, H18, H19, H20, H21, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact read_stores _ _ f12 _ h12
  isplitl [H13]
  · unfold owns; iexists _; isplitr
    swap; · iexact H13
    ipureintro; exact read_stores _ _ f13 _ h13
  isplitl [H14]
  · unfold owns; iexists _; isplitr
    swap; · iexact H14
    ipureintro; exact read_stores _ _ f14 _ h14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HS0]; · iapply hpost; iexact HS0
  isplitl [HS1]; · iexact HS1
  isplitl [HS2]; · iexact HS2
  iexact HS3

/-- The weights scratch, after stores that are the specification's, holds the specification's contents. -/
theorem scratch_post (c : Dev nD) (arg24 : Memref sig .tc .vmem S3x4x128x384 .f32) (LS : List (View.Piece (Elt F) S3x4x128x384 .f32))
    (x0 : Vec F S12 .f32) (x5 : Vec F S12x128x128 .f32) (h : LS = wStores (wTile x0 x5)) :
    iprop(∃ f, arg24.view.loc (c : Thread nD τ) ↦[arg24.view.set]{fullShare} arg24.view.writes (Elt F) f LS)
      ⊢ (owns (c : Thread nD τ) arg24 fullShare (wtOf x0 x5) : sProp 𝕄) := by
  iintro ⟨%f, H⟩
  unfold owns; iexists _; isplitr
  swap; · iexact H
  ipureintro; exact read_wStores _ _ _ _ h

/-- The weights scratch at some contents, from the scratch at given contents. -/
theorem scratch_pre (c : Dev nD) (arg24 : Memref sig .tc .vmem S3x4x128x384 .f32) (xs0 : Vec F S3x4x128x384 .f32) :
    (owns (c : Thread nD τ) arg24 fullShare xs0 : sProp 𝕄) ⊢ iprop(∃ d, owns (c : Thread nD τ) arg24 fullShare d) := by
  iintro H; iexists _; iexact H

end Cert.KernelIdeal.Run

end
-- ==== Proof.SpecA.lean ====
module

public import proofs.«01_k».proof.Proof.IdealRunA
public import proofs.«01_k».proof.Proof.Step

/-! # What the body leaves at the first grid point

The lists of stores that the run left are the tiles of the specification. -/

@[expose] public section

set_option maxRecDepth 65536

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16)

include hc0 hc1 hc2 hc3

/-- The stores into the weights scratch. -/
theorem weights_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1 = wStores (wTile (arg2.view.read (Elt F) (harg2.unread x0)) (arg7.view.read (Elt F) (harg7.unread x5))) := by
  sl_kernel_rfl

/-- The stores into the first output. -/
theorem out12_A (wt : Vec F S3x4x128x384 .f32) (hwt : wt = arg24.view.read (Elt F) (arg24.view.writes (Elt F) arg24.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 = stores (o12 i (word1 (arg3.view.read (Elt F) (harg3.unread x1))) (arg6.view.read (Elt F) (harg6.unread x4)) (arg8.view.read (Elt F) (harg8.unread x6)) (arg10.view.read (Elt F) (harg10.unread x8)) (arg11.view.read (Elt F) (harg11.unread x9)) wt) := by
  subst hwt; sl_kernel_rfl

/-- The stores into the second output. -/
theorem out13_A (wt : Vec F S3x4x128x384 .f32) (hwt : wt = arg24.view.read (Elt F) (arg24.view.writes (Elt F) arg24.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 = stores (o13 i (word1 (arg3.view.read (Elt F) (harg3.unread x1))) (arg6.view.read (Elt F) (harg6.unread x4)) (arg8.view.read (Elt F) (harg8.unread x6)) (arg9.view.read (Elt F) (harg9.unread x7)) (arg10.view.read (Elt F) (harg10.unread x8)) (arg11.view.read (Elt F) (harg11.unread x9)) wt) := by
  subst hwt; sl_kernel_rfl

/-- The stores into the third output. -/
theorem out14_A (wt : Vec F S3x4x128x384 .f32) (hwt : wt = arg24.view.read (Elt F) (arg24.view.writes (Elt F) arg24.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1 = stores (o14 i (arg6.view.read (Elt F) (harg6.unread x4)) (arg10.view.read (Elt F) (harg10.unread x8)) (arg11.view.read (Elt F) (harg11.unread x9)) wt) := by
  subst hwt; sl_kernel_rfl

/-- The stores into the weights scratch, over the inputs' contents. -/
theorem weights'_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1 = wStores (wTile x0 x5) :=
  (weights_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).trans (by rw [harg2.read_unread, harg7.read_unread])

/-- What the weights scratch then holds. -/
theorem wt_A :
    wtOf x0 x5 = arg24.view.read (Elt F) (arg24.view.writes (Elt F) arg24.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1) :=
  (read_wStores _ _ _ _ (weights'_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).symm

/-- The stores into the first output, over the inputs' contents. -/
theorem out12'_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 = stores (o12 i (word1 x1) x4 x6 x8 x9 (wtOf x0 x5)) :=
  (out12_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg3.read_unread, harg6.read_unread, harg8.read_unread, harg10.read_unread, harg11.read_unread])

/-- The stores into the second output, over the inputs' contents. -/
theorem out13'_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 = stores (o13 i (word1 x1) x4 x6 x7 x8 x9 (wtOf x0 x5)) :=
  (out13_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg3.read_unread, harg6.read_unread, harg8.read_unread, harg9.read_unread, harg10.read_unread, harg11.read_unread])

/-- The stores into the third output, over the inputs' contents. -/
theorem out14'_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1 = stores (o14 i x4 x8 x9 (wtOf x0 x5)) :=
  (out14_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg6.read_unread, harg10.read_unread, harg11.read_unread])

/-- The run, as `RunsTo` spells it. -/
theorem runs_A :
    RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1
      (iprop(∃ d, owns (c : Thread nD τ) arg24 fullShare d))
      (iprop(∃ f, arg24.view.loc (c : Thread nD τ) ↦[arg24.view.set]{fullShare} arg24.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :=
  (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.2

/-- The body's step at the first grid point. -/
theorem step_A (xs0 : Vec F S3x4x128x384 .f32) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 (o12 i (word1 x1) x4 x6 x8 x9 (wtOf x0 x5))
      (o13 i (word1 x1) x4 x6 x7 x8 x9 (wtOf x0 x5)) (o14 i x4 x8 x9 (wtOf x0 x5)) :=
  (runs_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).steps (out12'_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out13'_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out14'_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)
    (scratch_pre c arg24 xs0)
    (scratch_post c arg24 _ x0 x5 (weights'_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11))

end Cert.KernelIdeal.Run

end
-- ==== Proof.IdealRunB.lean ====
module

public import proofs.«01_k».proof.Proof.IdealRunA

/-! # The whole body of the kernel read over the extended reals, run at the points that neither begin nor end a half -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12032000 in
/-- What the body leaves in the buffers of the first three outputs and of the weights scratch, as the lists of
    its stores (last first), with the proof that it runs from whole buffers to those. The inputs end as they
    were, the other outputs and scratches at some contents. -/
noncomputable def kernelRun0_B (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32) :
    Σ' (L12 : List (View.Piece (Elt F) S128x1024 .f32)), Σ' (L13 : List (View.Piece (Elt F) S128x1024 .f32)), Σ' (L14 : List (View.Piece (Elt F) S128x1024 .i8)), { LS0 : List (View.Piece (Elt F) S3x4x128x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, [], fun E K => ?run⟩
  case run =>
    simp only [cc0_diloco_outer_step_eq_skeleton]; unfold cc0_diloco_outer_step_skel
    simp only [k0_part439_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part440_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part441_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part442_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part443_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part444_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part445_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg24.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _; isplitr; · ipureintro; exact harg24.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Run

end
-- ==== Proof.SpecB.lean ====
module

public import proofs.«01_k».proof.Proof.IdealRunB
public import proofs.«01_k».proof.Proof.Step

/-! # What the body leaves at the points that neither begin nor end a half

The lists of stores that the run left are the tiles of the specification. -/

@[expose] public section

set_option maxRecDepth 65536

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32)

include hc0 hc1 hc2 hc3

/-- The stores into the first output. -/
theorem out12_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).1 = stores (o12 i (word1 (arg3.view.read (Elt F) (harg3.unread x1))) (arg6.view.read (Elt F) (harg6.unread x4)) (arg8.view.read (Elt F) (harg8.unread x6)) (arg10.view.read (Elt F) (harg10.unread x8)) (arg11.view.read (Elt F) (harg11.unread x9)) (arg24.view.read (Elt F) (harg24.unread xs0))) := by
  sl_kernel_rfl

/-- The stores into the second output. -/
theorem out13_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.1 = stores (o13 i (word1 (arg3.view.read (Elt F) (harg3.unread x1))) (arg6.view.read (Elt F) (harg6.unread x4)) (arg8.view.read (Elt F) (harg8.unread x6)) (arg9.view.read (Elt F) (harg9.unread x7)) (arg10.view.read (Elt F) (harg10.unread x8)) (arg11.view.read (Elt F) (harg11.unread x9)) (arg24.view.read (Elt F) (harg24.unread xs0))) := by
  sl_kernel_rfl

/-- The stores into the third output. -/
theorem out14_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.2.1 = stores (o14 i (arg6.view.read (Elt F) (harg6.unread x4)) (arg10.view.read (Elt F) (harg10.unread x8)) (arg11.view.read (Elt F) (harg11.unread x9)) (arg24.view.read (Elt F) (harg24.unread xs0))) := by
  sl_kernel_rfl

/-- The stores into the first output, over the inputs' contents. -/
theorem out12'_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 = stores (o12 i (word1 x1) x4 x6 x8 x9 (wtOf x0 x5)) :=
  (out12_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg10.read_unread, harg11.read_unread, harg24.read_unread])

/-- The stores into the second output, over the inputs' contents. -/
theorem out13'_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 = stores (o13 i (word1 x1) x4 x6 x7 x8 x9 (wtOf x0 x5)) :=
  (out13_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg9.read_unread, harg10.read_unread, harg11.read_unread, harg24.read_unread])

/-- The stores into the third output, over the inputs' contents. -/
theorem out14'_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1 = stores (o14 i x4 x8 x9 (wtOf x0 x5)) :=
  (out14_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg6.read_unread, harg10.read_unread, harg11.read_unread, harg24.read_unread])

/-- The run, as `RunsTo` spells it. -/
theorem runs_B :
    RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1
      (owns (c : Thread nD τ) arg24 fullShare (wtOf x0 x5))
      (owns (c : Thread nD τ) arg24 fullShare (wtOf x0 x5)) :=
  (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.2.2

/-- The body's step at the points that neither begin nor end a half. -/
theorem step_B (hxs : xs0 = wtOf x0 x5) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 (o12 i (word1 x1) x4 x6 x8 x9 (wtOf x0 x5))
      (o13 i (word1 x1) x4 x6 x7 x8 x9 (wtOf x0 x5)) (o14 i x4 x8 x9 (wtOf x0 x5)) :=
  (runs_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).steps (out12'_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out13'_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out14'_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)
    (by subst hxs; exact Entails.refl _)
    (Entails.refl _)

end Cert.KernelIdeal.Run

end
-- ==== Proof.IdealRunC.lean ====
module

public import proofs.«01_k».proof.Proof.IdealRunA

/-! # The whole body of the kernel read over the extended reals, run at the last point of the first half -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12284000 in
/-- What the body leaves in the buffers of the first three outputs and of the weights scratch, as the lists of
    its stores (last first), with the proof that it runs from whole buffers to those. The inputs end as they
    were, the other outputs and scratches at some contents. -/
noncomputable def kernelRun0_C (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32) :
    Σ' (L12 : List (View.Piece (Elt F) S128x1024 .f32)), Σ' (L13 : List (View.Piece (Elt F) S128x1024 .f32)), Σ' (L14 : List (View.Piece (Elt F) S128x1024 .i8)), { LS0 : List (View.Piece (Elt F) S3x4x128x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, [], fun E K => ?run⟩
  case run =>
    simp only [cc0_diloco_outer_step_eq_skeleton]; unfold cc0_diloco_outer_step_skel
    simp only [k0_part439_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part440_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part441_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part442_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part443_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part444_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part445_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg24.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _; isplitr; · ipureintro; exact harg24.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Run

end
-- ==== Proof.SpecC.lean ====
module

public import proofs.«01_k».proof.Proof.IdealRunC
public import proofs.«01_k».proof.Proof.Step

/-! # What the body leaves at the last point of the first half

The lists of stores that the run left are the tiles of the specification. -/

@[expose] public section

set_option maxRecDepth 65536

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32)

include hc0 hc1 hc2 hc3

/-- The stores into the first output. -/
theorem out12_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).1 = stores (o12 i (word1 (arg3.view.read (Elt F) (harg3.unread x1))) (arg6.view.read (Elt F) (harg6.unread x4)) (arg8.view.read (Elt F) (harg8.unread x6)) (arg10.view.read (Elt F) (harg10.unread x8)) (arg11.view.read (Elt F) (harg11.unread x9)) (arg24.view.read (Elt F) (harg24.unread xs0))) := by
  sl_kernel_rfl

/-- The stores into the second output. -/
theorem out13_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.1 = stores (o13 i (word1 (arg3.view.read (Elt F) (harg3.unread x1))) (arg6.view.read (Elt F) (harg6.unread x4)) (arg8.view.read (Elt F) (harg8.unread x6)) (arg9.view.read (Elt F) (harg9.unread x7)) (arg10.view.read (Elt F) (harg10.unread x8)) (arg11.view.read (Elt F) (harg11.unread x9)) (arg24.view.read (Elt F) (harg24.unread xs0))) := by
  sl_kernel_rfl

/-- The stores into the third output. -/
theorem out14_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.2.1 = stores (o14 i (arg6.view.read (Elt F) (harg6.unread x4)) (arg10.view.read (Elt F) (harg10.unread x8)) (arg11.view.read (Elt F) (harg11.unread x9)) (arg24.view.read (Elt F) (harg24.unread xs0))) := by
  sl_kernel_rfl

/-- The stores into the first output, over the inputs' contents. -/
theorem out12'_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 = stores (o12 i (word1 x1) x4 x6 x8 x9 (wtOf x0 x5)) :=
  (out12_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg10.read_unread, harg11.read_unread, harg24.read_unread])

/-- The stores into the second output, over the inputs' contents. -/
theorem out13'_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 = stores (o13 i (word1 x1) x4 x6 x7 x8 x9 (wtOf x0 x5)) :=
  (out13_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg9.read_unread, harg10.read_unread, harg11.read_unread, harg24.read_unread])

/-- The stores into the third output, over the inputs' contents. -/
theorem out14'_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1 = stores (o14 i x4 x8 x9 (wtOf x0 x5)) :=
  (out14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg6.read_unread, harg10.read_unread, harg11.read_unread, harg24.read_unread])

/-- The run, as `RunsTo` spells it. -/
theorem runs_C :
    RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1
      (owns (c : Thread nD τ) arg24 fullShare (wtOf x0 x5))
      (owns (c : Thread nD τ) arg24 fullShare (wtOf x0 x5)) :=
  (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.2.2

/-- The body's step at the last point of the first half. -/
theorem step_C (hxs : xs0 = wtOf x0 x5) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 (o12 i (word1 x1) x4 x6 x8 x9 (wtOf x0 x5))
      (o13 i (word1 x1) x4 x6 x7 x8 x9 (wtOf x0 x5)) (o14 i x4 x8 x9 (wtOf x0 x5)) :=
  (runs_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).steps (out12'_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out13'_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out14'_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)
    (by subst hxs; exact Entails.refl _)
    (Entails.refl _)

end Cert.KernelIdeal.Run

end
-- ==== Proof.IdealRunD.lean ====
module

public import proofs.«01_k».proof.Proof.IdealRunA

/-! # The whole body of the kernel read over the extended reals, run at the first point of the second half -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 13304000 in
/-- What the body leaves in the buffers of the first three outputs and of the weights scratch, as the lists of
    its stores (last first), with the proof that it runs from whole buffers to those. The inputs end as they
    were, the other outputs and scratches at some contents. -/
noncomputable def kernelRun0_D (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) :
    Σ' (L12 : List (View.Piece (Elt F) S128x1024 .f32)), Σ' (L13 : List (View.Piece (Elt F) S128x1024 .f32)), Σ' (L14 : List (View.Piece (Elt F) S128x1024 .i8)), { LS0 : List (View.Piece (Elt F) S3x4x128x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS0) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_diloco_outer_step_eq_skeleton]; unfold cc0_diloco_outer_step_skel
    simp only [k0_part439_eq_skeleton, k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part440_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part441_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part442_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part443_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part444_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part445_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Run

end
-- ==== Proof.SpecD.lean ====
module

public import proofs.«01_k».proof.Proof.IdealRunD
public import proofs.«01_k».proof.Proof.Step

/-! # What the body leaves at the first point of the second half

The lists of stores that the run left are the tiles of the specification. -/

@[expose] public section

set_option maxRecDepth 65536

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : cond0_0 i) (hc1 : ¬cond0_1 i) (hc2 : ¬cond0_2 i) (hc3 : ¬cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16)

include hc0 hc1 hc2 hc3

/-- The stores into the weights scratch. -/
theorem weights_D :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1 = wStores (wTile (arg2.view.read (Elt F) (harg2.unread x0)) (arg7.view.read (Elt F) (harg7.unread x5))) := by
  sl_kernel_rfl

/-- The stores into the first output. -/
theorem out12_D (wt : Vec F S3x4x128x384 .f32) (hwt : wt = arg24.view.read (Elt F) (arg24.view.writes (Elt F) arg24.view.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 = stores (o12 i (word1 (arg3.view.read (Elt F) (harg3.unread x1))) (arg6.view.read (Elt F) (harg6.unread x4)) (arg8.view.read (Elt F) (harg8.unread x6)) (arg10.view.read (Elt F) (harg10.unread x8)) (arg11.view.read (Elt F) (harg11.unread x9)) wt) := by
  subst hwt; sl_kernel_rfl

/-- The stores into the second output. -/
theorem out13_D (wt : Vec F S3x4x128x384 .f32) (hwt : wt = arg24.view.read (Elt F) (arg24.view.writes (Elt F) arg24.view.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 = stores (o13 i (word1 (arg3.view.read (Elt F) (harg3.unread x1))) (arg6.view.read (Elt F) (harg6.unread x4)) (arg8.view.read (Elt F) (harg8.unread x6)) (arg9.view.read (Elt F) (harg9.unread x7)) (arg10.view.read (Elt F) (harg10.unread x8)) (arg11.view.read (Elt F) (harg11.unread x9)) wt) := by
  subst hwt; sl_kernel_rfl

/-- The stores into the third output. -/
theorem out14_D (wt : Vec F S3x4x128x384 .f32) (hwt : wt = arg24.view.read (Elt F) (arg24.view.writes (Elt F) arg24.view.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1 = stores (o14 i (arg6.view.read (Elt F) (harg6.unread x4)) (arg10.view.read (Elt F) (harg10.unread x8)) (arg11.view.read (Elt F) (harg11.unread x9)) wt) := by
  subst hwt; sl_kernel_rfl

/-- The stores into the weights scratch, over the inputs' contents. -/
theorem weights'_D :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1 = wStores (wTile x0 x5) :=
  (weights_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).trans (by rw [harg2.read_unread, harg7.read_unread])

/-- What the weights scratch then holds. -/
theorem wt_D :
    wtOf x0 x5 = arg24.view.read (Elt F) (arg24.view.writes (Elt F) arg24.view.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1) :=
  (read_wStores _ _ _ _ (weights'_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).symm

/-- The stores into the first output, over the inputs' contents. -/
theorem out12'_D :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 = stores (o12 i (word1 x1) x4 x6 x8 x9 (wtOf x0 x5)) :=
  (out12_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg3.read_unread, harg6.read_unread, harg8.read_unread, harg10.read_unread, harg11.read_unread])

/-- The stores into the second output, over the inputs' contents. -/
theorem out13'_D :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 = stores (o13 i (word1 x1) x4 x6 x7 x8 x9 (wtOf x0 x5)) :=
  (out13_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg3.read_unread, harg6.read_unread, harg8.read_unread, harg9.read_unread, harg10.read_unread, harg11.read_unread])

/-- The stores into the third output, over the inputs' contents. -/
theorem out14'_D :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1 = stores (o14 i x4 x8 x9 (wtOf x0 x5)) :=
  (out14_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 _ (wt_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)).trans (by rw [harg6.read_unread, harg10.read_unread, harg11.read_unread])

/-- The run, as `RunsTo` spells it. -/
theorem runs_D :
    RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).1 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.1 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.1
      (iprop(∃ d, owns (c : Thread nD τ) arg24 fullShare d))
      (iprop(∃ f, arg24.view.loc (c : Thread nD τ) ↦[arg24.view.set]{fullShare} arg24.view.writes (Elt F) f (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.1)) :=
  (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).2.2.2.2

/-- The body's step at the first point of the second half. -/
theorem step_D (xs0 : Vec F S3x4x128x384 .f32) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 (o12 i (word1 x1) x4 x6 x8 x9 (wtOf x0 x5))
      (o13 i (word1 x1) x4 x6 x7 x8 x9 (wtOf x0 x5)) (o14 i x4 x8 x9 (wtOf x0 x5)) :=
  (runs_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).steps (out12'_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out13'_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out14'_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)
    (scratch_pre c arg24 xs0)
    (scratch_post c arg24 _ x0 x5 (weights'_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11))

end Cert.KernelIdeal.Run

end
-- ==== Proof.IdealRunE.lean ====
module

public import proofs.«01_k».proof.Proof.IdealRunC

/-! # The whole body of the kernel read over the extended reals, run at the last grid point -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12660000 in
/-- What the body leaves in the buffers of the first three outputs and of the weights scratch, as the lists of
    its stores (last first), with the proof that it runs from whole buffers to those. The inputs end as they
    were, the other outputs and scratches at some contents. -/
noncomputable def kernelRun0_E (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32) :
    Σ' (L12 : List (View.Piece (Elt F) S128x1024 .f32)), Σ' (L13 : List (View.Piece (Elt F) S128x1024 .f32)), Σ' (L14 : List (View.Piece (Elt F) S128x1024 .i8)), { LS0 : List (View.Piece (Elt F) S3x4x128x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_diloco_outer_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, [], fun E K => ?run⟩
  case run =>
    simp only [cc0_diloco_outer_step_eq_skeleton]; unfold cc0_diloco_outer_step_skel
    simp only [k0_part439_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part440_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part441_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part442_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part443_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part444_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part445_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg24.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _; isplitr; · ipureintro; exact harg24.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Run

end
-- ==== Proof.SpecE.lean ====
module

public import proofs.«01_k».proof.Proof.IdealRunE
public import proofs.«01_k».proof.Proof.Step

/-! # What the body leaves at the last grid point

The lists of stores that the run left are the tiles of the specification. -/

@[expose] public section

set_option maxRecDepth 65536

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S12 .f32) (harg2 : arg2.IsWhole) (arg3 : Memref sig .tc .smem S1 .f32) (harg3 : arg3.IsWhole) (arg4 : Memref sig .tc .vmem S2x128 .i32) (harg4 : arg4.IsWhole) (arg5 : Memref sig .tc .vmem S2x128 .i32) (harg5 : arg5.IsWhole) (arg6 : Memref sig .tc .vmem S12x128x512 .i8) (harg6 : arg6.IsWhole) (arg7 : Memref sig .tc .vmem S12x128x128 .f32) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .i8) (harg10 : arg10.IsWhole) (arg11 : Memref sig .tc .vmem S128x128 .f32) (harg11 : arg11.IsWhole) (arg12 : Memref sig .tc .vmem S128x3328 .f32) (harg12 : arg12.IsWhole) (arg13 : Memref sig .tc .vmem S128x3328 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .i8) (harg16 : arg16.IsWhole) (arg17 : Memref sig .tc .vmem S128x128 .f32) (harg17 : arg17.IsWhole) (arg18 : Memref sig .tc .vmem S128x1024 .fp8e4m3) (harg18 : arg18.IsWhole) (arg19 : Memref sig .tc .vmem S2x128 .f32) (harg19 : arg19.IsWhole) (arg20 : Memref sig .tc .vmem S128x1664 .i8) (harg20 : arg20.IsWhole) (arg21 : Memref sig .tc .vmem S128x416 .f32) (harg21 : arg21.IsWhole) (arg22 : Memref sig .tc .vmem S4x2x128 .f32) (harg22 : arg22.IsWhole) (arg23 : Memref sig .tc .vmem S4x128 .f32) (harg23 : arg23.IsWhole) (arg24 : Memref sig .tc .vmem S3x4x128x384 .f32) (harg24 : arg24.IsWhole) (arg25 : Memref sig .tc .vmem S4x128x128 .f32) (harg25 : arg25.IsWhole) (arg26 : Memref sig .tc .vmem S128x128 .f32) (harg26 : arg26.IsWhole) (arg27 : Memref sig .tc .vmem S16x128x128 .f32) (harg27 : arg27.IsWhole) (hc0 : ¬cond0_0 i) (hc1 : ¬cond0_1 i) (hc2 : cond0_2 i) (hc3 : cond0_3 i)
    (x0 : Vec F S12 .f32) (x1 : Vec F S1 .f32) (x2 : Vec F S2x128 .i32) (x3 : Vec F S2x128 .i32) (x4 : Vec F S12x128x512 .i8) (x5 : Vec F S12x128x128 .f32) (x6 : Vec F S128x1024 .f32) (x7 : Vec F S128x1024 .bf16) (x8 : Vec F S128x1024 .i8) (x9 : Vec F S128x128 .f32) (x10 : Vec F S128x3328 .f32) (x11 : Vec F S128x3328 .bf16) (xs0 : Vec F S3x4x128x384 .f32)

include hc0 hc1 hc2 hc3

/-- The stores into the first output. -/
theorem out12_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).1 = stores (o12 i (word1 (arg3.view.read (Elt F) (harg3.unread x1))) (arg6.view.read (Elt F) (harg6.unread x4)) (arg8.view.read (Elt F) (harg8.unread x6)) (arg10.view.read (Elt F) (harg10.unread x8)) (arg11.view.read (Elt F) (harg11.unread x9)) (arg24.view.read (Elt F) (harg24.unread xs0))) := by
  sl_kernel_rfl

/-- The stores into the second output. -/
theorem out13_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.1 = stores (o13 i (word1 (arg3.view.read (Elt F) (harg3.unread x1))) (arg6.view.read (Elt F) (harg6.unread x4)) (arg8.view.read (Elt F) (harg8.unread x6)) (arg9.view.read (Elt F) (harg9.unread x7)) (arg10.view.read (Elt F) (harg10.unread x8)) (arg11.view.read (Elt F) (harg11.unread x9)) (arg24.view.read (Elt F) (harg24.unread xs0))) := by
  sl_kernel_rfl

/-- The stores into the third output. -/
theorem out14_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 xs0).2.2.1 = stores (o14 i (arg6.view.read (Elt F) (harg6.unread x4)) (arg10.view.read (Elt F) (harg10.unread x8)) (arg11.view.read (Elt F) (harg11.unread x9)) (arg24.view.read (Elt F) (harg24.unread xs0))) := by
  sl_kernel_rfl

/-- The stores into the first output, over the inputs' contents. -/
theorem out12'_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 = stores (o12 i (word1 x1) x4 x6 x8 x9 (wtOf x0 x5)) :=
  (out12_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg10.read_unread, harg11.read_unread, harg24.read_unread])

/-- The stores into the second output, over the inputs' contents. -/
theorem out13'_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 = stores (o13 i (word1 x1) x4 x6 x7 x8 x9 (wtOf x0 x5)) :=
  (out13_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg3.read_unread, harg6.read_unread, harg8.read_unread, harg9.read_unread, harg10.read_unread, harg11.read_unread, harg24.read_unread])

/-- The stores into the third output, over the inputs' contents. -/
theorem out14'_E :
    (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1 = stores (o14 i x4 x8 x9 (wtOf x0 x5)) :=
  (out14_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).trans (by rw [harg6.read_unread, harg10.read_unread, harg11.read_unread, harg24.read_unread])

/-- The run, as `RunsTo` spells it. -/
theorem runs_E :
    RunsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).1 (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.1 (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.1
      (owns (c : Thread nD τ) arg24 fullShare (wtOf x0 x5))
      (owns (c : Thread nD τ) arg24 fullShare (wtOf x0 x5)) :=
  (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 (wtOf x0 x5)).2.2.2.2

/-- The body's step at the last grid point. -/
theorem step_E (hxs : xs0 = wtOf x0 x5) :
    StepsTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 xs0 (o12 i (word1 x1) x4 x6 x8 x9 (wtOf x0 x5))
      (o13 i (word1 x1) x4 x6 x7 x8 x9 (wtOf x0 x5)) (o14 i x4 x8 x9 (wtOf x0 x5)) :=
  (runs_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11).steps (out12'_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out13'_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11) (out14'_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11)
    (by subst hxs; exact Entails.refl _)
    (Entails.refl _)

end Cert.KernelIdeal.Run

end
-- ==== Proof.IdealFrame.lean ====
module

public import proofs.«01_k».proof.Proof.SpecA
public import proofs.«01_k».proof.Proof.SpecB
public import proofs.«01_k».proof.Proof.SpecC
public import proofs.«01_k».proof.Proof.SpecD
public import proofs.«01_k».proof.Proof.SpecE
public import Idealize.ShloMosaic.Lib.Claim
public import Idealize.ShloMosaic.Lib.Pipeline.ValueKit.Geometry

/-! # The frame of the kernel read over the extended reals

Every grid point leaves in its first three outputs the tiles of the specification, of the point's own input blocks
and of the weights its half of the grid multiplies with; the launch runs to its end, and the arrays that are no
results end as they began. -/

@[expose] public section

set_option maxRecDepth 16384

noncomputable section

namespace Cert.KernelIdeal.Run

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves -/

/-- The weights a point multiplies with, from its blocks of the worker weights and of the scales. -/
def wtAt (c : Dev nD) (t : Fin cfg0.N) : Vec F S3x4x128x384 .f32 := wtOf (iblk m c 0 t) (iblk m c 5 t)

/-- The first output's block after a point. -/
def blk12 (c : Dev nD) (t : Fin cfg0.N) : Vec F S128x1024 .f32 :=
  ofTiles (o12 (grid0.coords t) (word1 (iblk m c 1 t)) (iblk m c 4 t) (iblk m c 6 t) (iblk m c 8 t) (iblk m c 9 t) (wtAt m c t))

/-- The second output's block after a point. -/
def blk13 (c : Dev nD) (t : Fin cfg0.N) : Vec F S128x1024 .f32 :=
  ofTiles (o13 (grid0.coords t) (word1 (iblk m c 1 t)) (iblk m c 4 t) (iblk m c 6 t) (iblk m c 7 t) (iblk m c 8 t) (iblk m c 9 t) (wtAt m c t))

/-- The third output's block after a point. -/
def blk14 (c : Dev nD) (t : Fin cfg0.N) : Vec F S128x1024 .i8 :=
  ofTiles (o14 (grid0.coords t) (iblk m c 4 t) (iblk m c 8 t) (iblk m c 9 t) (wtAt m c t))

/-- The worker weights are one block, and the scales are one block per half of the grid. -/
theorem idx_half : ∀ t s : Fin cfg0.N, t.val / 16 = s.val / 16 → win0_0.index t = win0_0.index s ∧ win0_5.index t = win0_5.index s :=
  (by decide +kernel : ∀ t s : Fin grid0.N, _)

/-- Two points of one half multiply with the same weights. -/
theorem wtAt_half (c : Dev nD) (t s : Fin cfg0.N) (h : t.val / 16 = s.val / 16) : wtAt m c t = wtAt m c s := by
  obtain ⟨e0, e5⟩ := idx_half t s h
  have h0 : (iblk m c 0 t : Vec F S12 .f32) = iblk m c 0 s := by
    funext y
    refine congrArg (V m c (Pipeline.arrRef spec0 0)) (funext fun a => Fin.ext ?_)
    show win0_0.index t a * _ + 1 * (y a).val = win0_0.index s a * _ + 1 * (y a).val
    rw [e0]
  have h5 : (iblk m c 5 t : Vec F S12x128x128 .f32) = iblk m c 5 s := by
    funext y
    refine congrArg (V m c (Pipeline.arrRef spec0 5)) (funext fun a => Fin.ext ?_)
    show win0_5.index t a * _ + 1 * (y a).val = win0_5.index s a * _ + 1 * (y a).val
    rw [e5]
  unfold wtAt
  rw [h0, h5]

/-! ## The invariant between points -/

/-- Before the first point the scratches hold anything; after a point the weights scratch holds that point's weights
    and the other scratches anything. -/
def PhiS (c : Dev nD) : (n : ℕ) → n ≤ cfg0.N → sProp 𝕄
  | 0, _ => Pipeline.ΦA spec0 c
  | n + 1, hn => iprop(iprop(owns (c : Thread nD τ) scM0_0 fullShare (wtAt m c ⟨n, hn⟩) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (wtAt m c ⟨n, hn⟩) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (wtAt m c ⟨n - 1, by omega⟩) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-! ## The pipeline's proof data -/

/-- The output windows this certificate FORGETS (15, 16, 17, 18, 19, 20, 21): nothing reads what the kernel leaves in them, so nothing
    of it is named (Lib/Pipeline/Dat.lean `Dat.toRForget`). -/
def forgets0 : Fin 22 → Bool := fun w => w.val == 15 || w.val == 16 || w.val == 17 || w.val == 18 || w.val == 19 || w.val == 20 || w.val == 21
theorem forgets0_12 : forgets0 (12 : Fin 22) = false := by decide
theorem forgets0_13 : forgets0 (13 : Fin 22) = false := by decide
theorem forgets0_14 : forgets0 (14 : Fin 22) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => blk12 m c t
    | ⟨13, _⟩ => blk13 m c t
    | ⟨14, _⟩ => blk14 m c t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = blk12 m c t := by dsimp only [dats]
theorem after0_13 (c : Dev nD) (t : Fin cfg0.N) : (dats m 0 c).after 13 t = blk13 m c t := by dsimp only [dats]
theorem after0_14 (c : Dev nD) (t : Fin cfg0.N) : (dats m 0 c).after 14 t = blk14 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))
/-- The body's step at any point, from a weights scratch that the point either stores or finds stored. -/
theorem step_at (c : Dev nD) (t : Fin cfg0.N) (xs0 : Vec F S3x4x128x384 .f32) (hxs : ¬t.val % 16 = 0 → xs0 = wtAt m c t) :
    StepsTo c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0
      (o12 (grid0.coords t) (word1 (iblk m c 1 t)) (iblk m c 4 t) (iblk m c 6 t) (iblk m c 8 t) (iblk m c 9 t) (wtAt m c t))
      (o13 (grid0.coords t) (word1 (iblk m c 1 t)) (iblk m c 4 t) (iblk m c 6 t) (iblk m c 7 t) (iblk m c 8 t) (iblk m c 9 t) (wtAt m c t))
      (o14 (grid0.coords t) (iblk m c 4 t) (iblk m c 8 t) (iblk m c 9 t) (wtAt m c t)) := by
  have hN : t.val < 32 := lt_of_lt_of_eq t.isLt (show cfg0.N = 32 from N_0)
  by_cases h0 : t.val % 16 = 0
  · have h2 : ¬t.val % 16 = 15 := by omega
    have h3 : ¬t.val % 32 = 31 := by omega
    by_cases h1 : t.val % 32 = 0
    · exact step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0
    · exact step_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0
  · have h1 : ¬t.val % 32 = 0 := by omega
    by_cases h2 : t.val % 16 = 15
    · by_cases h3 : t.val % 32 = 31
      · exact step_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 (hxs h0)
      · exact step_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 (hxs h0)
    · have h3 : ¬t.val % 32 = 31 := by omega
      exact step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 (hxs h0)

set_option maxHeartbeats 4000000 in
/-- The body at any point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  by_cases hz : t.val = 0
  · rw [PhiS_castSucc m c t, PhiS_zero m c _ _ hz, PhiA0_eq]
    iintro ⟨⟨⟨⟨%s0, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    have st := step_at m c t s0 (fun h => absurd (by omega) h)
    unfold StepsTo at st
    iapply (st Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    have st := step_at m c t _ (fun h => wtAt_half m c ⟨t.val - 1, by omega⟩ t (by dsimp only; omega))
    unfold StepsTo at st
    iapply (st Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 15, 16, 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  rframe_of m ρ (fun c => (dats m 0 c).toRForget forgets0) (A_eq m) (run_main m ρ)

/-- The frame: every run ends, with no semaphore counter raised and the arguments as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Run

end
-- ==== Proof.Decode.lean ====
module

public import proofs.«01_k».proof.Proof.Weights
public import Idealize.ShloMosaic.Lib.Pointwise
public import Idealize.ShloMosaic.Lib.BitcastFour

/-! # Decoding the codes, one byte at a time

The kernel decodes four bytes at once in a word of 32 bits. Here each byte of the result is read: it is the bits of an
8-bit float made of one nibble of the same byte of the codes. -/

@[expose] public section

set_option maxRecDepth 16384

noncomputable section

namespace Cert.KernelIdeal.Tile

open Cert.KernelIdeal Cert.KernelIdeal.Gen
open Idealize.ShloMosaic Idealize.ShloMosaic.TcCoe

/-- The bits the kernel makes of a nibble that stands at bits 3 to 6: the exponent at bits 3 to 5, the sign at bit 7. -/
def spread (a : BitVec 8) : BitVec 8 := (a &&& 0x78#8) + ((a &&& 0x78#8) &&& 0x40#8)

/-- The 8-bit float of the low nibble of a byte. -/
def codeLo (b : BitVec 8) : BitVec 8 := spread (b <<< 3)

/-- The 8-bit float of the high nibble of a byte. -/
def codeHi (b : BitVec 8) : BitVec 8 := spread (b >>> 1)

theorem spread_eq : ∀ a : BitVec 8, spread a = ((a &&& 0x38#8) ||| ((a &&& 0x40#8) <<< 1)) := by decide +kernel

/-- The same in a word: no byte carries into the next. -/
theorem spread32 (a : BitVec 32) : (a &&& 0x78787878#32) + ((a &&& 0x78787878#32) &&& 0x40404040#32)
    = (a &&& 0x38383838#32) ||| ((a &&& 0x40404040#32) <<< 1) := by
  have e0 : (a &&& 0x78787878#32) &&& 0x40404040#32 = a &&& 0x40404040#32 := by
    rw [BitVec.and_assoc]; rfl
  have e1 : (a &&& 0x78787878#32) = (a &&& 0x38383838#32) + (a &&& 0x40404040#32) := by
    rw [BitVec.add_eq_or_of_and_eq_zero]
    · rw [← BitVec.and_or_distrib_left]; rfl
    · ext i hi
      interval_cases i <;> simp
  have e2 : (a &&& 0x40404040#32) <<< 1 = (a &&& 0x40404040#32) + (a &&& 0x40404040#32) := by
    apply BitVec.eq_of_toNat_eq
    simp only [BitVec.toNat_shiftLeft, Nat.shiftLeft_eq, BitVec.toNat_add, pow_one, Nat.mul_two]
  have e3 : (a &&& 0x38383838#32) &&& ((a &&& 0x40404040#32) <<< 1) = 0#32 := by
    ext i hi
    interval_cases i <;> simp
  rw [e0, ← BitVec.add_eq_or_of_and_eq_zero _ _ e3, e2, e1, BitVec.add_assoc]

/-- Byte `k` of the spread word is the spread of byte `k`: shifted left by three, so that the low nibble stands at bits
    3 to 6. -/
theorem wordLo (w : BitVec 32) (k q : ℕ) (hk : k < 4) (hq : q < 8) :
    (((w <<< 3) &&& 0x78787878#32) + (((w <<< 3) &&& 0x78787878#32) &&& 0x40404040#32)).getLsbD (8 * k + q)
      = (codeLo (w.extractLsb' (8 * k) 8)).getLsbD q := by
  rw [spread32, codeLo, spread_eq]
  interval_cases k <;> interval_cases q <;> simp [BitVec.getLsbD_extractLsb']

/-- The same, shifted right by one, so that the high nibble stands there. -/
theorem wordHi (w : BitVec 32) (k q : ℕ) (hk : k < 4) (hq : q < 8) :
    (((w >>> 1) &&& 0x78787878#32) + (((w >>> 1) &&& 0x78787878#32) &&& 0x40404040#32)).getLsbD (8 * k + q)
      = (codeHi (w.extractLsb' (8 * k) 8)).getLsbD q := by
  rw [spread32, codeHi, spread_eq]
  interval_cases k <;> interval_cases q <;> simp [BitVec.getLsbD_extractLsb']

/-- A byte of a word put together from four rows of bytes is the byte of its row. -/
theorem byteOf (x : IVec S32x128 8) (r : Fin 32) (l : Fin 128) :
    (bitcast S8x128 32 x bitcasts_S32x128_w8_S8x128_w32 (ix2 (⟨r.val / 4, by omega⟩ : Fin 8) l)).extractLsb' (8 * (r.val % 4)) 8 = x (ix2 r l) := by
  apply BitVec.eq_of_getLsbD_eq
  intro i hi
  have hr := r.isLt
  have e : (8 * (r.val % 4) + i) % 8 = i := by omega
  have h := bitcast_8_32_getLsbD_ix2 (R := 32) (r := 8) (n := 128) x bitcasts_S32x128_w8_S8x128_w32 (⟨r.val / 4, by omega⟩ : Fin 8) l
    (8 * (r.val % 4) + i) (by omega) r (by show r.val = 4 * (r.val / 4) + _; omega)
  rw [e] at h
  rw [BitVec.getLsbD_extractLsb', decide_eq_true hi, Bool.true_and]
  exact h

/-- A bit of a byte cut out of the words. -/
theorem bitOfByte (x : IVec S8x128 32) (r : Fin 32) (l : Fin 128) (q : ℕ) (hq : q < 8) :
    (bitcast S32x128 8 x bitcasts_S8x128_w32_S32x128_w8 (ix2 r l)).getLsbD q
      = (x (ix2 (⟨r.val / 4, by omega⟩ : Fin 8) l)).getLsbD (8 * (r.val % 4) + q) := by
  have hr := r.isLt
  rw [bitcast_getLsbD x bitcasts_S8x128_w32_S32x128_w8 _ q hq (by decide)]
  have er : S32x128.row (ix2 r l) = r.val := rfl
  have e2 : (S32x128.row (ix2 r l) * 8 + q) % 32 = 8 * (r.val % 4) + q := by rw [er]; omega
  rw [e2]
  congr 2
  funext c
  match c with
  | ⟨0, _⟩ => exact Fin.ext ((Shape.Bitcasts.srcIdx_row _ _ _ _ ⟨0, Nat.zero_lt_two⟩ rfl).trans (by rw [er]; show _ = r.val / 4; omega))
  | ⟨1, _⟩ => exact Fin.ext (Shape.Bitcasts.srcIdx_other _ _ _ _ ⟨1, Nat.one_lt_two⟩ (by show ¬ 1 + 2 = 2; omega))

/-- The low nibbles, decoded. -/
theorem decLo_at (v : Vec Ideal S1x32x128 .i8) (r : Fin 32) (l : Fin 128) :
    decLo (F := Ideal) v (ix2 r l) = Ideal.ofBits .fp8e4m3 (codeLo (v (ix3 0 r l))) := by
  show Ideal.ofBits .fp8e4m3 _ = _
  congr 1
  apply BitVec.eq_of_getLsbD_eq
  intro q hq
  refine (bitOfByte _ r l q hq).trans ((wordLo _ _ q (by omega) hq).trans ?_)
  rw [byteOf]
  pointwise

/-- The high nibbles, decoded. -/
theorem decHi_at (v : Vec Ideal S1x32x128 .i8) (r : Fin 32) (l : Fin 128) :
    decHi (F := Ideal) v (ix2 r l) = Ideal.ofBits .fp8e4m3 (codeHi (v (ix3 0 r l))) := by
  show Ideal.ofBits .fp8e4m3 _ = _
  congr 1
  apply BitVec.eq_of_getLsbD_eq
  intro q hq
  refine (bitOfByte _ r l q hq).trans ((wordHi _ _ q (by omega) hq).trans ?_)
  rw [byteOf]
  pointwise

end Cert.KernelIdeal.Tile

end
-- ==== Proof.DotValue.lean ====
module

public import proofs.«01_k».proof.Proof.Decode
public import Idealize.ShloMosaic.PureOps.Ideal.Laws

/-! # The products of a tile, at an index

The products of the diagonal matrices of weights with the decoded codes, over the extended reals: each element is the
sum over the workers of one weight times one decoded code, once for every split of the weight. -/

@[expose] public section

set_option maxRecDepth 16384

noncomputable section

namespace Cert.KernelIdeal.Tile

open Cert.KernelIdeal Cert.KernelIdeal.Gen
open Idealize.ShloMosaic Idealize.ShloMosaic.TcCoe

/-- The value of a nibble of a byte: the low one (0) or the high one (1). -/
def nv (h : Fin 2) (b : BitVec 8) : EReal :=
  match h with
  | 0 => Ideal.ofBits .fp8e4m3 (codeLo b)
  | 1 => Ideal.ofBits .fp8e4m3 (codeHi b)

/-- Row `r` of group `k`, of twelve groups of 32. -/
def at384 (k : Fin 12) (r : Fin 32) : Fin 384 := ⟨k.val * 32 + r.val, by omega⟩

/-- Lane `b` of half `h`. -/
def lane (h : Fin 2) (b : Fin 64) : Fin 128 := ⟨64 * h.val + b.val, by omega⟩

/-- The mask of the diagonals: column `x` belongs to row `x mod 32`. -/
theorem diag_at (r : Fin 32) (x : Fin 128) : k0_pay156 (ix2 r x) = if x.val % 32 = r.val then 1#1 else 0#1 := by
  pointwise [k0_pay156]
  revert r x
  decide +kernel

/-- The mask of the left lanes. -/
theorem left_at (r : Fin 32) (x : Fin 128) : k0_pay151 (ix2 r x) = if x.val < 64 then 1#1 else 0#1 := by
  pointwise [k0_pay151]
  revert x
  decide +kernel

theorem onDiag_at (v : FVec Ideal S1x128 .f32) (r : Fin 32) (x : Fin 128) :
    onDiag (F := Ideal) v (ix2 r x) = if x.val % 32 = r.val then v (ix2 0 x) else 0 := by
  pointwise [onDiag]
  rw [diag_at]
  by_cases h : x.val % 32 = r.val
  · rw [if_pos h, if_pos h]; rfl
  · rw [if_neg h, if_neg h]; rfl

theorem stack12_at (v : Fin 12 → FVec Ideal S32x128 .fp8e4m3) (k : Fin 12) (r : Fin 32) (l : Fin 128) :
    stack12 v (ix2 (at384 k r) l) = v k (ix2 r l) := by
  refine concatenate_ofFn_apply (t := S384x128) (s₁ := S32x128) 0 v _ rfl 32 rfl (ix2 (at384 k r) l) k ?_ (ix2 r l) ?_ ?_
  · show (k.val * 32 + r.val) / 32 = k.val; omega
  · show r.val = (k.val * 32 + r.val) % 32; omega
  · intro b hb
    match b with
    | ⟨0, _⟩ => exact absurd rfl hb
    | ⟨1, _⟩ => rfl

theorem rhs_at (c : Fin 12 → Vec Ideal S1x32x128 .i8) (k : Fin 12) (r : Fin 32) (h : Fin 2) (l : Fin 128) :
    rhs (F := Ideal) c (ix2 (at384 k r) (⟨128 * h.val + l.val, by omega⟩ : Fin 256)) = nv h (c k (ix3 0 r l)) := by
  match h with
  | 0 =>
    pointwise [rhs]
    rw [stack12_at, decLo_at]; rfl
  | 1 =>
    pointwise [rhs]
    rw [stack12_at, decHi_at]; rfl

theorem lhs1_at (w : Vec Ideal S1x1x1x384 .f32) (r : Fin 32) (x : Fin 384) :
    lhs1 (F := Ideal) w (ix2 r x) = if x.val % 32 = r.val then w (ix4 0 0 0 x) else 0 := by
  pointwise [lhs1, onDiag_at]
  by_cases h1 : x.val < 128
  · rw [dif_pos h1]
  · by_cases h2 : x.val - 128 < 128
    · rw [dif_neg h1, dif_pos h2]
      have e : (⟨128 + (x.val - 128), by omega⟩ : Fin 384) = x := Fin.ext (by show 128 + (x.val - 128) = x.val; omega)
      have e' : (x.val - 128) % 32 = x.val % 32 := by omega
      rw [e, e']
    · rw [dif_neg h1, dif_neg h2]
      have e : (⟨256 + (x.val - 128 - 128), by omega⟩ : Fin 384) = x := Fin.ext (by show 256 + (x.val - 128 - 128) = x.val; omega)
      have e' : (x.val - 128 - 128) % 32 = x.val % 32 := by omega
      rw [e, e']

theorem lhs_at (w : Fin 2 → Vec Ideal S1x1x1x384 .f32) (q : Fin 2) (r : Fin 32) (x : Fin 384) :
    lhs (F := Ideal) (w 0) (w 1) (ix2 (⟨32 * q.val + r.val, by omega⟩ : Fin 64) x) = if x.val % 32 = r.val then w q (ix4 0 0 0 x) else 0 := by
  pointwise [lhs]
  match q with
  | 0 =>
    rw [dif_pos (by show 32 * 0 + r.val < 32; omega)]
    exact (congrArg (fun z => lhs1 (F := Ideal) (w 0) (ix2 z x)) (Fin.ext (by show 32 * 0 + r.val = r.val; omega))).trans (lhs1_at (w 0) r x)
  | 1 =>
    rw [dif_neg (by show ¬ 32 * 1 + r.val < 32; omega)]
    exact (congrArg (fun z => lhs1 (F := Ideal) (w 1) (ix2 z x)) (Fin.ext (by show 32 * 1 + r.val - 32 = r.val; omega))).trans (lhs1_at (w 1) r x)

/-- The two stretches of the contraction together are the whole of it. -/
theorem prod_at (l : FVec Ideal S64x384 .bf16) (b : FVec Ideal S384x256 .fp8e4m3) (r : Fin 64) (y : Fin 256) :
    prodA (F := Ideal) l b (ix2 r y) + prodB (F := Ideal) l b (ix2 r y) = ∑ x : Fin 384, l (ix2 r x) * b (ix2 x y) := by
  pointwise [prodA, prodB]
  exact (Fin.sum_univ_add (a := 256) (b := 128) (fun x : Fin (256 + 128) => l (ix2 r x) * b (ix2 x y))).symm

theorem pick_at (q h : Fin 2) (d : FVec Ideal S64x256 .f32) (r : Fin 32) (b : Fin 64) :
    pick (F := Ideal) q d (ix2 r (lane h b)) = d (ix2 (⟨32 * q.val + r.val, by omega⟩ : Fin 64) (⟨128 * h.val + (lane q b).val, by omega⟩ : Fin 256)) := by
  match q, h with
  | 0, 0 =>
    pointwise [pick]
    rw [left_at, if_pos (by show 64 * 0 + b.val < 64; omega)]
    exact congrArg (fun y => d (ix2 (⟨r.val, by omega⟩ : Fin 64) y)) (Fin.ext (by show 64 * 0 + b.val = 64 * 0 + b.val; rfl))
  | 0, 1 =>
    pointwise [pick]
    rw [left_at, if_neg (by show ¬ 64 * 1 + b.val < 64; omega)]
    exact congrArg (fun y => d (ix2 (⟨r.val, by omega⟩ : Fin 64) y)) (Fin.ext (by show 128 + (64 * 1 + b.val + 128 - 64) % 128 = 128 * 1 + (64 * 0 + b.val); omega))
  | 1, 0 =>
    pointwise [pick]
    rw [left_at, if_pos (by show 64 * 0 + b.val < 64; omega)]
    exact congrArg (fun y => d (ix2 (⟨32 + r.val, by omega⟩ : Fin 64) y)) (Fin.ext (by show (64 * 0 + b.val + 128 - 64) % 128 = 64 * 1 + b.val; omega))
  | 1, 1 =>
    pointwise [pick]
    rw [left_at, if_neg (by show ¬ 64 * 1 + b.val < 64; omega)]
    exact congrArg (fun y => d (ix2 (⟨32 + r.val, by omega⟩ : Fin 64) y)) (Fin.ext (by show 128 + (64 * 1 + b.val) = 128 * 1 + (64 * 1 + b.val); omega))

/-- The six products added: over the splits and the workers, a weight times a code's value. -/
theorem sum6_at (w : Fin 3 → Fin 2 → Vec Ideal S1x1x1x384 .f32) (c : Fin 12 → Vec Ideal S1x32x128 .i8) (q h : Fin 2) (r : Fin 32) (l : Fin 128) :
    sum6 (F := Ideal) (fun s => lhs (w s 0) (w s 1)) (rhs c) (ix2 (⟨32 * q.val + r.val, by omega⟩ : Fin 64) (⟨128 * h.val + l.val, by omega⟩ : Fin 256))
      = ∑ s : Fin 3, ∑ k : Fin 12, w s q (ix4 0 0 0 (at384 k r)) * nv h (c k (ix3 0 r l)) := by
  have one : ∀ s : Fin 3, prodA (F := Ideal) (lhs (w s 0) (w s 1)) (rhs c) (ix2 (⟨32 * q.val + r.val, by omega⟩ : Fin 64) (⟨128 * h.val + l.val, by omega⟩ : Fin 256))
      + prodB (F := Ideal) (lhs (w s 0) (w s 1)) (rhs c) (ix2 (⟨32 * q.val + r.val, by omega⟩ : Fin 64) (⟨128 * h.val + l.val, by omega⟩ : Fin 256))
      = ∑ k : Fin 12, w s q (ix4 0 0 0 (at384 k r)) * nv h (c k (ix3 0 r l)) := fun s => by
    rw [prod_at]
    refine (Fin.sum_univ_tiles 12 32 rfl _).trans (Finset.sum_congr rfl fun k _ => ?_)
    refine (Finset.sum_eq_single r (fun x _ hx => ?_) (fun hr => absurd (Finset.mem_univ r) hr)).trans ?_
    · refine (congrArg₂ (fun a b : EReal => a * b) ((lhs_at (w s) q r (at384 k x)).trans (if_neg fun e => hx (Fin.ext ?_))) rfl).trans (zero_mul _)
      have : (k.val * 32 + x.val) % 32 = r.val := e
      omega
    · exact congrArg₂ (fun a b : EReal => a * b) ((lhs_at (w s) q r (at384 k r)).trans (if_pos (by show (k.val * 32 + r.val) % 32 = r.val; omega)))
        (rhs_at c k r h l)
  rw [Fin.sum_univ_three, ← one 0, ← one 1, ← one 2]
  pointwise [sum6]
  simp only [add_assoc]

/-- The weighted sum of the decoded deltas on a tile. -/
theorem dT_at (i : grid0.Coords) (x4 : Vec Ideal S12x128x512 .i8) (wt : Vec Ideal S3x4x128x384 .f32) (g p : Fin 4) (q h : Fin 2) (r : Fin 32) (b : Fin 64) :
    dT (F := Ideal) i x4 wt g p q (ix2 r (lane h b))
      = ∑ s : Fin 3, ∑ k : Fin 12, wT i wt g p s q (ix4 0 0 0 (at384 k r)) * nv h (cT x4 g p k (ix3 0 r (lane q b))) := by
  rw [dT, pick_at]
  exact sum6_at (fun s q => wT i wt g p s q) (cT x4 g p) q h r (lane q b)

end Cert.KernelIdeal.Tile

end
-- ==== Proof.WeightValue.lean ====
module

public import proofs.«01_k».proof.Proof.DotValue
public import proofs.«01_k».proof.Proof.Blocks
public import Idealize.ShloMosaic.Lib.Pipeline.ValueKit

/-! # The weights at an index, and the weighted sum

Over the extended reals a bf16 rounding is the identity: of the three splits of a finite weight the first is the weight
and the others are zero. -/

@[expose] public section

set_option maxRecDepth 16384

noncomputable section

namespace Cert.KernelIdeal.Tile

open Cert.KernelIdeal Cert.KernelIdeal.Gen
open Idealize.ShloMosaic Idealize.ShloMosaic.TcCoe

/-- Row `r` of row group `g`. -/
def row (g : Fin 4) (r : Fin 32) : Fin 128 := ⟨32 * g.val + r.val, by omega⟩

/-- Column block `2p + q` of the block at column step `j`. -/
def blkOf (j : Fin 16) (p : Fin 4) (q : Fin 2) : Fin 128 := ⟨8 * j.val + (2 * p.val + q.val), by omega⟩

/-- A worker's weight times its scale. -/
def wgt (x0 : Vec Ideal S12 .f32) (x5 : Vec Ideal S12x128x128 .f32) (k : Fin 12) (r c : Fin 128) : EReal :=
  x0 (ix1 k) * x5 (ix3 k r c)

theorem word12_at (x0 : Vec Ideal S12 .f32) (k : Fin 12) : word12 (F := Ideal) x0 k = x0 (ix1 k) := by
  unfold word12
  exact congrArg x0 (funext fun a => Fin.ext (by
    match a with
    | ⟨0, _⟩ => rfl))

theorem weighted_at (x0 : Vec Ideal S12 .f32) (x5 : Vec Ideal S12x128x128 .f32) (g : Fin 4) (k : Fin 12) (r : Fin 32) (c : Fin 128) :
    weighted (F := Ideal) x0 x5 g k (ix2 r c) = wgt x0 x5 k (row g r) c := by
  have cast : ∀ v : FVec Ideal S1x32x128 .f32, shapeCast S32x128 v shapeCasts_S1x32x128_S32x128 (ix2 r c) = v (ix3 0 r c) := fun v => by pointwise
  refine congrArg₂ (fun a b : EReal => a * b) (word12_at x0 k) ((cast _).trans ?_)
  refine View.ld_unit_apply_of _ _ _ _ _ _ fun a => ?_
  match a with
  | ⟨0, _⟩ => rfl
  | ⟨1, _⟩ => rfl
  | ⟨2, _⟩ => exact (Nat.zero_add _).symm

theorem prod4_at (x0 : Vec Ideal S12 .f32) (x5 : Vec Ideal S12x128x128 .f32) (g : Fin 4) (t : Fin 3) (u : Fin 4) (r : Fin 32) (c : Fin 128) :
    prod4 (F := Ideal) x0 x5 g t (ix2 c (⟨32 * u.val + r.val, by omega⟩ : Fin 128)) = wgt x0 x5 (worker t u) (row g r) c := by
  refine Eq.trans ?_ (weighted_at x0 x5 g (worker t u) r c)
  unfold prod4
  refine Eq.trans (b := concatenate S128x128 0 (List.ofFn fun n : Fin 4 => (⟨S32x128, weighted (F := Ideal) x0 x5 g (worker t n)⟩ : (s : Shape) × (s.Idx → EReal)))
    concatenates_S32x128_S32x128_S32x128_S32x128_S128x128_d0 (ix2 (⟨32 * u.val + r.val, by omega⟩ : Fin 128) c)) ?_ ?_
  · pointwise
    rfl
  · refine concatenate_ofFn_apply (t := S128x128) (s₁ := S32x128) 0 (fun n => weighted (F := Ideal) x0 x5 g (worker t n)) _ rfl 32 rfl _ u ?_ (ix2 r c) ?_ ?_
    · show (32 * u.val + r.val) / 32 = u.val; omega
    · show r.val = (32 * u.val + r.val) % 32; omega
    · intro b hb
      match b with
      | ⟨0, _⟩ => exact absurd rfl hb
      | ⟨1, _⟩ => rfl

theorem lead_at (v : FVec Ideal S128x128 .f32) (j : S128x128.Idx) : lead (F := Ideal) v j = v j := rfl

/-- A finite number less itself is zero. -/
theorem sub_same (x : EReal) (h1 : x ≠ ⊤) (h2 : x ≠ ⊥) : x - x = 0 := by
  lift x to ℝ using ⟨h1, h2⟩
  rw [← EReal.coe_sub, sub_self, EReal.coe_zero]

theorem split_at (v : FVec Ideal S128x128 .f32) (s : Fin 3) (j : S128x128.Idx) (x : EReal) (e : v j = x) (h1 : x ≠ ⊤) (h2 : x ≠ ⊥) :
    split (F := Ideal) v s j = if s = 0 then x else 0 := by
  match s with
  | 0 => exact e
  | 1 =>
    show v j - v j = 0
    rw [e]; exact sub_same x h1 h2
  | 2 =>
    show (v j - v j) - (v j - v j) = 0
    rw [e, sub_same x h1 h2]; exact sub_zero _

/-- The weights scratch at an index. -/
theorem wtAt (x0 : Vec Ideal S12 .f32) (x5 : Vec Ideal S12x128x128 .f32) (s : Fin 3) (g : Fin 4) (c : Fin 128) (k : Fin 12) (r : Fin 32)
    (h1 : wgt x0 x5 k (row g r) c ≠ ⊤) (h2 : wgt x0 x5 k (row g r) c ≠ ⊥) :
    ofSplits (F := Ideal) (wTile x0 x5) (ix4 s g c (at384 k r)) = if s = 0 then wgt x0 x5 k (row g r) c else 0 := by
  have hk := k.isLt
  refine (ofSplits_at (wTile x0 x5) (ix4 s g c (at384 k r)) s g (⟨k.val / 4, by omega⟩ : Fin 3) c (⟨32 * (k.val % 4) + r.val, by omega⟩ : Fin 128) rfl rfl rfl ?_).trans ?_
  · show k.val * 32 + r.val = 128 * (k.val / 4) + (32 * (k.val % 4) + r.val); omega
  · refine Eq.trans (b := split (F := Ideal) (prod4 x0 x5 g (⟨k.val / 4, by omega⟩ : Fin 3)) s (ix2 c (⟨32 * (k.val % 4) + r.val, by omega⟩ : Fin 128))) ?_ ?_
    · pointwise [wTile]
    · refine split_at _ s _ _ ((prod4_at x0 x5 g (⟨k.val / 4, by omega⟩ : Fin 3) (⟨k.val % 4, by omega⟩ : Fin 4) r c).trans ?_) h1 h2
      exact congrArg (fun k => wgt x0 x5 k (row g r) c) (Fin.ext (by show 4 * (k.val / 4) + k.val % 4 = k.val; omega))

/-- A loaded row of weights. -/
theorem wT_at (i : grid0.Coords) (wt : Vec Ideal S3x4x128x384 .f32) (g p : Fin 4) (s : Fin 3) (q : Fin 2) (x : Fin 384) :
    wT (F := Ideal) i wt g p s q (ix4 0 0 0 x) = wt (ix4 s g (blkOf (i 1) p q) x) := by
  unfold wT
  refine View.ld_unit_apply_of _ _ _ _ _ _ fun a => ?_
  refine Eq.trans ?_ (congrArg (fun o : ℕ => o + (ix4 (0 : Fin 1) (0 : Fin 1) (0 : Fin 1) x a).val) (congrFun (offW_eq i s g p q) a).symm)
  match a with
  | ⟨0, _⟩ => rfl
  | ⟨1, _⟩ => rfl
  | ⟨2, _⟩ => rfl
  | ⟨3, _⟩ => exact (Nat.zero_add _).symm

/-- The weighted sum of the decoded deltas on a tile, of finite weights. -/
theorem dT_of (i : grid0.Coords) (x0 : Vec Ideal S12 .f32) (x4 : Vec Ideal S12x128x512 .i8) (x5 : Vec Ideal S12x128x128 .f32)
    (g p : Fin 4) (q h : Fin 2) (r : Fin 32) (b : Fin 64)
    (hf : ∀ k : Fin 12, wgt x0 x5 k (row g r) (blkOf (i 1) p q) ≠ ⊤ ∧ wgt x0 x5 k (row g r) (blkOf (i 1) p q) ≠ ⊥) :
    dT (F := Ideal) i x4 (ofSplits (wTile x0 x5)) g p q (ix2 r (lane h b))
      = ∑ k : Fin 12, wgt x0 x5 k (row g r) (blkOf (i 1) p q) * nv h (x4 (ix3 k (row g r) (⟨128 * p.val + (lane q b).val, by omega⟩ : Fin 512))) := by
  rw [dT_at, Fin.sum_univ_three]
  have e : ∀ (s : Fin 3) (k : Fin 12), wT (F := Ideal) i (ofSplits (wTile x0 x5)) g p s q (ix4 0 0 0 (at384 k r))
      = if s = 0 then wgt x0 x5 k (row g r) (blkOf (i 1) p q) else 0 := fun s k =>
    (wT_at i _ g p s q _).trans (wtAt x0 x5 s g _ k r (hf k).1 (hf k).2)
  have e4 : ∀ k : Fin 12, cT (F := Ideal) x4 g p k (ix3 0 r (lane q b)) = x4 (ix3 k (row g r) (⟨128 * p.val + (lane q b).val, by omega⟩ : Fin 512)) := fun k => by
    pointwise [cT]
    rfl
  simp only [e, e4]
  have z1 : ∑ k : Fin 12, (if (1 : Fin 3) = 0 then wgt x0 x5 k (row g r) (blkOf (i 1) p q) else 0) * nv h (x4 (ix3 k (row g r) (⟨128 * p.val + (lane q b).val, by omega⟩ : Fin 512))) = 0 :=
    Finset.sum_eq_zero fun k _ => by rw [if_neg (by decide), zero_mul]
  have z2 : ∑ k : Fin 12, (if (2 : Fin 3) = 0 then wgt x0 x5 k (row g r) (blkOf (i 1) p q) else 0) * nv h (x4 (ix3 k (row g r) (⟨128 * p.val + (lane q b).val, by omega⟩ : Fin 512))) = 0 :=
    Finset.sum_eq_zero fun k _ => by rw [if_neg (by decide), zero_mul]
  rw [z1, z2, add_zero, add_zero]
  exact Finset.sum_congr rfl fun k _ => congrArg (· * _) (if_pos trivial)

end Cert.KernelIdeal.Tile

end
-- ==== Proof.Nibble.lean ====
module

public import proofs.«01_k».proof.Proof.DotValue

/-! # What a nibble means

A nibble has a sign at bit 3 and an exponent in bits 0 to 2: exponent 0 is the value 0, exponent `e` is `2 ^ (e - 7)`.
The kernel's 8-bit floats and the reference's integer arithmetic both compute this value. -/

@[expose] public section

set_option maxRecDepth 16384

noncomputable section

namespace Cert.Nibble

open Idealize.ShloMosaic Cert.KernelIdeal.Tile

/-- The value of nibble `n`. -/
def nibVal (n : Fin 16) : EReal :=
  (((if 8 ≤ n.val then -1 else 1) * (if n.val % 8 = 0 then 0 else 2 ^ (n.val % 8) / 128) : ℝ) : EReal)

/-- The low nibble of a byte. -/
def lo (b : BitVec 8) : Fin 16 := ⟨b.toNat % 16, by omega⟩

/-- The high nibble of a byte. -/
def hi (b : BitVec 8) : Fin 16 := ⟨b.toNat / 16, by have := b.isLt; omega⟩

theorem code_val (n : Fin 16) : Ideal.ofBits .fp8e4m3 (codeLo (BitVec.ofNat 8 n.val)) = nibVal n := by
  fin_cases n <;> simp [Ideal.ofBits, Ideal.e4m3fn, codeLo, spread, nibVal] <;> norm_num <;>
    rw [← EReal.coe_mul] <;> norm_num

theorem codeLo_nib : ∀ b : BitVec 8, codeLo b = codeLo (BitVec.ofNat 8 (lo b).val) := by decide +kernel
theorem codeHi_nib : ∀ b : BitVec 8, codeHi b = codeLo (BitVec.ofNat 8 (hi b).val) := by decide +kernel

/-- The kernel's low nibble. -/
theorem nv_lo (b : BitVec 8) : nv 0 b = nibVal (lo b) := by
  show Ideal.ofBits .fp8e4m3 (codeLo b) = _
  rw [codeLo_nib]; exact code_val _

/-- The kernel's high nibble. -/
theorem nv_hi (b : BitVec 8) : nv 1 b = nibVal (hi b) := by
  show Ideal.ofBits .fp8e4m3 (codeHi b) = _
  rw [codeHi_nib]; exact code_val _

/-- The reference's magnitude of a nibble held in a word. -/
def magOf (u : BitVec 32) : EReal :=
  Scalar.select (IntOp.cmpi .eq (IntOp.andi u 7#32) 0#32) (Ideal.ofBits .f32 0x00000000#32)
    (FloatOps.sitofp (F := Ideal) .f32 (IntOp.shli .host 1#32 (IntOp.andi u 7#32)) * Ideal.ofBits .f32 0x3C000000#32 : EReal)

/-- The reference's value of a nibble held in a word. -/
def refNib (u : BitVec 32) : EReal := Scalar.select (IntOp.cmpi .ne (IntOp.shrsi .host u 3#32) 0#32) (-magOf u) (magOf u)

theorem sitofp_val {w : ℕ} (x : BitVec w) : FloatOps.sitofp (F := Ideal) .f32 x = ((x.toInt : ℝ) : EReal) := rfl

theorem ref_val (n : Fin 16) : refNib (BitVec.ofNat 32 n.val) = nibVal n := by
  fin_cases n <;> simp [refNib, magOf, nibVal, sitofp_val, Ideal.ofBits, Ideal.ieee, IntOp.andi, IntOp.shli, IntOp.shrsi, IntOp.cmpi,
    Scalar.select] <;> norm_num <;> rw [← EReal.coe_mul, ← EReal.coe_mul] <;> norm_num

theorem word_lo : ∀ b : BitVec 8, IntOp.andi (b.setWidth 32) 15#32 = BitVec.ofNat 32 (lo b).val := by decide +kernel
theorem word_hi : ∀ b : BitVec 8, IntOp.shrsi .host (b.setWidth 32) 4#32 = BitVec.ofNat 32 (hi b).val := by decide +kernel

/-- The reference's low nibble. -/
theorem ref_lo (b : BitVec 8) : refNib (IntOp.andi (b.setWidth 32) 15#32) = nv 0 b := by rw [word_lo, ref_val, nv_lo]

/-- The reference's high nibble. -/
theorem ref_hi (b : BitVec 8) : refNib (IntOp.shrsi .host (b.setWidth 32) 4#32) = nv 1 b := by rw [word_hi, ref_val, nv_hi]

end Cert.Nibble

end
-- ==== Proof.Spec.lean ====
module

public import proofs.«01_k».proof.Proof.Nibble

/-! # The values both programs compute

Each result at a row `R`, a column block `B` and a lane `l`, as a formula over the arguments. -/

@[expose] public section

noncomputable section

namespace Cert.Spec

open Idealize.ShloMosaic Cert.KernelIdeal.Tile

/-- The byte a lane's code lies in. -/
def byteOf (B l : Fin 128) : Fin 8192 := ⟨64 * B.val + l.val % 64, by omega⟩

/-- A column of the wide arrays. -/
def colOf (B l : Fin 128) : Fin 16384 := ⟨B.val * 128 + l.val, by omega⟩

/-- The half of a block a lane lies in. -/
def halfOf (l : Fin 128) : Fin 2 := ⟨l.val / 64, by omega⟩

/-- The weighted sum of the decoded deltas. -/
def dS (codes : Fin 12 → Fin 256 → Fin 8192 → BitVec 8) (scales : Fin 12 → Fin 256 → Fin 128 → EReal) (w : Fin 12 → EReal)
    (R : Fin 256) (B l : Fin 128) : EReal :=
  ∑ k : Fin 12, (w k * scales k R B) * nv (halfOf l) (codes k R (byteOf B l))

/-- The new momentum, of the old code and scale and the weighted sum. -/
def bS (mc : BitVec 8) (ms d : EReal) : EReal :=
  Ideal.ofBits .f32 0x3F666666#32 * (FloatOps.sitofp (F := Ideal) .f32 mc * ms : EReal) + d

/-- The new global value. -/
def oS (ga lr d b : EReal) : EReal := ga - lr * (d + Ideal.ofBits .f32 0x3F666666#32 * b)

/-- The merged value. -/
def mS (la o : EReal) : EReal := Ideal.ofBits .f32 0x3F000000#32 * la + Ideal.ofBits .f32 0x3F000000#32 * o

/-- The largest magnitude of a row of a block. -/
def amaxS (f : Fin 128 → EReal) : EReal :=
  Finset.univ.fold max (Ideal.ofBits .f32 0xFF800000#32) fun x => (FloatOps.absf (F := Ideal) (φ := .f32) (f x) : EReal)

/-- The scale of a row of a block. -/
def scaleS (f : Fin 128 → EReal) : EReal := if amaxS f = 0 then 1 else Ideal.div (amaxS f) (Ideal.ofBits .f32 0x42FE0000#32)

/-- The rounded and clipped quotient. -/
def quotS (f : Fin 128 → EReal) (l : Fin 128) : EReal :=
  min (Ideal.ofBits .f32 0x42FE0000#32) (max (Ideal.ofBits .f32 0xC2FE0000#32) (Ideal.liftRound Ideal.roundHalfEven (Ideal.div (f l) (scaleS f))))

/-- The new code. -/
def cS (f : Fin 128 → EReal) (l : Fin 128) : BitVec 8 := Ideal.fptosi 8 (quotS f l)

theorem ofBits_127 : Ideal.ofBits .f32 0x42FE0000#32 = ((127 : ℝ) : EReal) := by
  simp [Ideal.ofBits, Ideal.ieee]; rw [← EReal.coe_mul]; norm_num

theorem ofBits_n127 : Ideal.ofBits .f32 0xC2FE0000#32 = ((-127 : ℝ) : EReal) := by
  simp [Ideal.ofBits, Ideal.ieee]; rw [← EReal.coe_mul]; norm_num

/-- A clipped quotient is a real number between -127 and 127. -/
theorem quotS_real (f : Fin 128 → EReal) (l : Fin 128) : ∃ x : ℝ, quotS f l = (x : EReal) ∧ -127 ≤ x ∧ x ≤ 127 := by
  unfold quotS
  rw [ofBits_127, ofBits_n127]
  generalize Ideal.liftRound Ideal.roundHalfEven (Ideal.div (f l) (scaleS f)) = y
  have h1 : min ((127 : ℝ) : EReal) (max ((-127 : ℝ) : EReal) y) ≤ ((127 : ℝ) : EReal) := min_le_left _ _
  have h2 : ((-127 : ℝ) : EReal) ≤ min ((127 : ℝ) : EReal) (max ((-127 : ℝ) : EReal) y) :=
    le_min (EReal.coe_le_coe_iff.mpr (by norm_num)) (le_max_left _ _)
  generalize min ((127 : ℝ) : EReal) (max ((-127 : ℝ) : EReal) y) = z at h1 h2
  have t : z ≠ ⊤ := fun h => absurd (h ▸ h1) (not_le.mpr (EReal.coe_lt_top _))
  have b : z ≠ ⊥ := fun h => absurd (h ▸ h2) (not_le.mpr (EReal.bot_lt_coe _))
  lift z to ℝ using ⟨t, b⟩
  exact ⟨z, rfl, EReal.coe_le_coe_iff.mp h2, EReal.coe_le_coe_iff.mp h1⟩

/-- Through a 32-bit integer the code is the same. -/
theorem code_via32 (f : Fin 128 → EReal) (l : Fin 128) : (Ideal.fptosi 32 (quotS f l)).setWidth 8 = cS f l := by
  obtain ⟨x, e, h1, h2⟩ := quotS_real f l
  unfold cS
  rw [e]
  have key : ∀ n : ℤ, -127 ≤ n → n ≤ 127 →
      (BitVec.ofInt 32 (max (-(2 ^ 31)) (min (2 ^ 31 - 1) n))).setWidth 8 = BitVec.ofInt 8 (max (-(2 ^ 7)) (min (2 ^ 7 - 1) n)) := by
    intro n a b
    have : ∀ k : Fin 255, (BitVec.ofInt 32 (max (-(2 ^ 31)) (min (2 ^ 31 - 1) ((k.val : ℤ) - 127)))).setWidth 8
        = BitVec.ofInt 8 (max (-(2 ^ 7)) (min (2 ^ 7 - 1) ((k.val : ℤ) - 127))) := by decide +kernel
    have := this ⟨(n + 127).toNat, by omega⟩
    have e2 : (((n + 127).toNat : ℕ) : ℤ) - 127 = n := by omega
    simpa only [e2] using this
  have h := key (if 0 ≤ x then ⌊x⌋ else ⌈x⌉)
    (by split
        · exact Int.le_floor.mpr (by push_cast; exact h1)
        · exact Int.cast_le (R := ℝ).mp (le_trans (by push_cast; exact h1) (Int.le_ceil x)))
    (by split
        · exact Int.cast_le (R := ℝ).mp (le_trans (Int.floor_le x) (by push_cast; exact h2))
        · exact Int.ceil_le.mpr (by push_cast; exact h2))
  exact h

end Cert.Spec

end
-- ==== Proof.TileValue.lean ====
module

public import proofs.«01_k».proof.Proof.WeightValue
public import proofs.«01_k».proof.Proof.Spec

/-! # The outputs of a tile, at an index -/

@[expose] public section

set_option maxRecDepth 16384

noncomputable section

namespace Cert.KernelIdeal.Tile

open Cert.KernelIdeal Cert.KernelIdeal.Gen
open Idealize.ShloMosaic Idealize.ShloMosaic.TcCoe Cert.Spec

theorem rotAmt_val : ∀ i : grid0.Coords, (rotAmt i).toNat = (128 - 8 * (i 1).val) % 128 := by decide +kernel

/-- The column of momentum scales a tile uses. -/
theorem scaleCol_at (i : grid0.Coords) (p : Fin 4) (q : Fin 2) (ms : FVec Ideal S32x128 .f32) (r : Fin 32) (l : Fin 128) :
    scaleCol (F := Ideal) (2 * p.val + q.val) (slicesCol p q) (dynamicRotate 1 (rotAmt i) none ms rotates_S32x128_d1) (ix2 r l)
      = ms (ix2 r (blkOf (i 1) p q)) := by
  pointwise [scaleCol]
  refine congrArg (fun c => ms (ix2 r c)) (Fin.ext ?_)
  have h := rotAmt_val i
  have hi : (i 1).val < 16 := (i 1).isLt
  have hp := p.isLt
  have hq := q.isLt
  show (2 * p.val + q.val + 128 - (rotAmt i).toNat % 128) % 128 = 8 * (i 1).val + (2 * p.val + q.val)
  omega

/-- The new momentum at an index. -/
theorem bNew_at (col : FVec Ideal S32x128 .f32) (mc : Vec Ideal S32x128 .i8) (d : FVec Ideal S32x128 .f32) (r : Fin 32) (l : Fin 128) :
    bNew (F := Ideal) col mc d (ix2 r l) = bS (mc (ix2 r l)) (col (ix2 r l)) (d (ix2 r l)) := by
  pointwise [bNew]
  rfl

/-- The new global value at an index. -/
theorem outerT_at (lr : EReal) (ga d b : FVec Ideal S32x128 .f32) (r : Fin 32) (l : Fin 128) :
    outerT (F := Ideal) lr ga d b (ix2 r l) = oS (ga (ix2 r l)) lr (d (ix2 r l)) (b (ix2 r l)) := by
  pointwise [outerT]
  rfl

/-- The merged value at an index. -/
theorem mergedT_at (la : Vec Ideal S32x128 .bf16) (o : FVec Ideal S32x128 .f32) (r : Fin 32) (l : Fin 128) :
    mergedT (F := Ideal) la o (ix2 r l) = mS (la (ix2 r l)) (o (ix2 r l)) := by
  pointwise [mergedT]
  rfl

/-- The new code at an index. -/
theorem codesT_at (b : FVec Ideal S32x128 .f32) (r : Fin 32) (l : Fin 128) :
    codesT (F := Ideal) b (ix2 r l) = cS (fun x => b (ix2 r x)) l := by
  pointwise [codesT, scaleT]
  rfl

/-- The column of a tile in its block. -/
def tcol (p : Fin 4) (q : Fin 2) (l : Fin 128) : Fin 1024 := ⟨256 * p.val + 128 * q.val + l.val, by omega⟩

/-- A tile of a block at an index. -/
theorem tT_at {e : EltTy} (x : Vec Ideal S128x1024 e) (g p : Fin 4) (q : Fin 2) (r : Fin 32) (l : Fin 128) :
    tT (F := Ideal) x g p q (ix2 r l) = x (ix2 (row g r) (tcol p q l)) := by
  unfold tT
  refine View.ld_unit_apply_of _ _ _ _ _ _ fun a => ?_
  match a with
  | ⟨0, _⟩ => rfl
  | ⟨1, _⟩ => rfl

/-- Every lane is in the left or the right half. -/
theorem lane_eq (l : Fin 128) : lane (halfOf l) (⟨l.val % 64, by omega⟩ : Fin 64) = l :=
  Fin.ext (by show 64 * (l.val / 64) + l.val % 64 = l.val; omega)

/-- The byte of a lane's code in the block. -/
def tbyte (p : Fin 4) (q : Fin 2) (l : Fin 128) : Fin 512 := ⟨128 * p.val + 64 * q.val + l.val % 64, by omega⟩

section

variable (i : grid0.Coords) (x0 : Vec Ideal S12 .f32) (x4 : Vec Ideal S12x128x512 .i8) (x5 : Vec Ideal S12x128x128 .f32)
  (x6 : Vec Ideal S128x1024 .f32) (x7 : Vec Ideal S128x1024 .bf16) (x8 : Vec Ideal S128x1024 .i8) (x9 : Vec Ideal S128x128 .f32) (lr : EReal)
  (g p : Fin 4) (q : Fin 2) (r : Fin 32) (l : Fin 128)
  (hf : ∀ k : Fin 12, wgt x0 x5 k (row g r) (blkOf (i 1) p q) ≠ ⊤ ∧ wgt x0 x5 k (row g r) (blkOf (i 1) p q) ≠ ⊥)

/-- The weighted sum on a tile, over the block's inputs. -/
def dB : EReal := ∑ k : Fin 12, wgt x0 x5 k (row g r) (blkOf (i 1) p q) * nv (halfOf l) (x4 (ix3 k (row g r) (tbyte p q l)))

/-- The new momentum on a tile, over the block's inputs. -/
def bB : EReal := bS (x8 (ix2 (row g r) (tcol p q l))) (x9 (ix2 (row g r) (blkOf (i 1) p q))) (dB i x0 x4 x5 g p q r l)

include hf

theorem dT_val : dT (F := Ideal) i x4 (ofSplits (wTile x0 x5)) g p q (ix2 r l) = dB i x0 x4 x5 g p q r l := by
  have h := dT_of i x0 x4 x5 g p q (halfOf l) r (⟨l.val % 64, by omega⟩ : Fin 64) hf
  rw [lane_eq] at h
  refine h.trans (Finset.sum_congr rfl fun k _ => ?_)
  refine congrArg (fun c => wgt x0 x5 k (row g r) (blkOf (i 1) p q) * nv (halfOf l) (x4 (ix3 k (row g r) c))) (Fin.ext ?_)
  show 128 * p.val + (64 * q.val + l.val % 64) = 128 * p.val + 64 * q.val + l.val % 64
  omega

theorem bT_val : bT (F := Ideal) i x4 x8 x9 (ofSplits (wTile x0 x5)) g p q (ix2 r l) = bB i x0 x4 x5 x8 x9 g p q r l := by
  unfold bT bB
  rw [bNew_at, scaleCol_at, tT_at, dT_val i x0 x4 x5 g p q r l hf]
  refine congrArg (fun s => bS _ s _) ?_
  refine View.ld_unit_apply_of _ _ _ _ _ _ fun a => ?_
  match a with
  | ⟨0, _⟩ => rfl
  | ⟨1, _⟩ => exact (Nat.zero_add _).symm

theorem o12_val : o12 (F := Ideal) i lr x4 x6 x8 x9 (ofSplits (wTile x0 x5)) g p q (ix2 r l)
    = oS (x6 (ix2 (row g r) (tcol p q l))) lr (dB i x0 x4 x5 g p q r l) (bB i x0 x4 x5 x8 x9 g p q r l) := by
  unfold o12
  rw [outerT_at, tT_at, dT_val i x0 x4 x5 g p q r l hf, bT_val i x0 x4 x5 x8 x9 g p q r l hf]

theorem o13_val : o13 (F := Ideal) i lr x4 x6 x7 x8 x9 (ofSplits (wTile x0 x5)) g p q (ix2 r l)
    = mS (x7 (ix2 (row g r) (tcol p q l))) (oS (x6 (ix2 (row g r) (tcol p q l))) lr (dB i x0 x4 x5 g p q r l) (bB i x0 x4 x5 x8 x9 g p q r l)) := by
  unfold o13
  rw [mergedT_at, tT_at, o12_val i x0 x4 x5 x6 x8 x9 lr g p q r l hf]

theorem o14_val : o14 (F := Ideal) i x4 x8 x9 (ofSplits (wTile x0 x5)) g p q (ix2 r l)
    = cS (fun x => bB i x0 x4 x5 x8 x9 g p q r x) l := by
  unfold o14
  rw [codesT_at]
  exact congrArg (fun f => cS f l) (funext fun x => bT_val i x0 x4 x5 x8 x9 g p q r x hf)

end

end Cert.KernelIdeal.Tile

end
-- ==== Proof.KernelValue.lean ====
module

public import proofs.«01_k».proof.Proof.IdealFrame
public import proofs.«01_k».proof.Proof.TileValue
public import Idealize.ShloMosaic.Lib.Pipeline.ValueKit

/-! # The kernel's three arrays

Every block of every input is read as its part of the argument; the blocks the points leave then are the formulas of
`Spec` over the arguments, and they tile the three results. -/

@[expose] public section

set_option maxRecDepth 16384

noncomputable section

namespace Cert.KernelIdeal.Arrays

open Cert.KernelIdeal Cert.KernelIdeal.Gen Cert.KernelIdeal.Tile Cert.KernelIdeal.Run Cert.Spec
open Idealize.ShloMosaic Idealize.ShloMosaic.TcCoe

variable (m : (ℓ : Loc nD τ sig) → Buf (Elt Ideal) ℓ)

/-! ## The arguments -/

def A0 (c : Dev nD) (k : Fin 12) (R : Fin 256) (b : Fin 8192) : BitVec 8 := m ((c : Thread nD τ).loc main_arg0) (ix3 k R b)
def A1 (c : Dev nD) (k : Fin 12) (R : Fin 256) (B : Fin 128) : EReal := m ((c : Thread nD τ).loc main_arg1) (ix3 k R B)
def A2 (c : Dev nD) (k : Fin 12) : EReal := m ((c : Thread nD τ).loc main_arg2) (ix1 k)
def A3 (c : Dev nD) (R : Fin 256) (x : Fin 16384) : EReal := m ((c : Thread nD τ).loc main_arg3) (ix2 R x)
def A4 (c : Dev nD) (R : Fin 256) (x : Fin 16384) : EReal := m ((c : Thread nD τ).loc main_arg4) (ix2 R x)
def A5 (c : Dev nD) (R : Fin 256) (x : Fin 16384) : BitVec 8 := m ((c : Thread nD τ).loc main_arg5) (ix2 R x)
def A6 (c : Dev nD) (R : Fin 256) (B : Fin 128) : EReal := m ((c : Thread nD τ).loc main_arg6) (ix2 R B)
def A7 (c : Dev nD) : EReal := m ((c : Thread nD τ).loc main_arg7) ix0

/-! ## The results, by row, block and lane -/

def resD (c : Dev nD) (R : Fin 256) (B l : Fin 128) : EReal := dS (A0 m c) (A1 m c) (A2 m c) R B l
def resB (c : Dev nD) (R : Fin 256) (B l : Fin 128) : EReal := bS (A5 m c R (colOf B l)) (A6 m c R B) (resD m c R B l)
def resO (c : Dev nD) (R : Fin 256) (B l : Fin 128) : EReal := oS (A3 m c R (colOf B l)) (A7 m c) (resD m c R B l) (resB m c R B l)
def resM (c : Dev nD) (R : Fin 256) (B l : Fin 128) : EReal := mS (A4 m c R (colOf B l)) (resO m c R B l)
def resC (c : Dev nD) (R : Fin 256) (B l : Fin 128) : BitVec 8 := cS (fun x => resB m c R B x) l

/-- An array of 256 rows by 16384 columns from its values by row, block and lane. -/
def wide {α : Type} (f : Fin 256 → Fin 128 → Fin 128 → α) : S256x16384.Idx → α := fun i =>
  have h1 : (i 1).val < 16384 := (i 1).isLt
  f (i 0) ⟨(i 1).val / 128, by omega⟩ ⟨(i 1).val % 128, by omega⟩

theorem wide_at {α : Type} (f : Fin 256 → Fin 128 → Fin 128 → α) (i : S256x16384.Idx) (R : Fin 256) (B l : Fin 128)
    (e0 : (i 0).val = R.val) (e1 : (i 1).val = B.val * 128 + l.val) : wide f i = f R B l := by
  have hl := l.isLt
  have a0 : i 0 = R := Fin.ext e0
  have a1 : (i 1).val / 128 = B.val := by rw [e1]; omega
  have a2 : (i 1).val % 128 = l.val := by rw [e1]; omega
  simp only [wide, a0, a1, a2]

/-! ## The blocks -/

/-- Where the windows' blocks lie. -/
theorem idx : ∀ t : Fin cfg0.N, win0_0.index t = ![0] ∧ win0_1.index t = ![0] ∧ win0_4.index t = ![0, t.val / 16, t.val % 16]
    ∧ win0_5.index t = ![0, t.val / 16, 0] ∧ win0_6.index t = ![t.val / 16, t.val % 16] ∧ win0_7.index t = ![t.val / 16, t.val % 16]
    ∧ win0_8.index t = ![t.val / 16, t.val % 16] ∧ win0_9.index t = ![t.val / 16, 0] ∧ win0_12.index t = ![t.val / 16, t.val % 16]
    ∧ win0_13.index t = ![t.val / 16, t.val % 16] ∧ win0_14.index t = ![t.val / 16, t.val % 16] ∧ (grid0.coords t 1).val = t.val % 16
    ∧ t.val / 16 < 2 :=
  (by decide +kernel : ∀ t : Fin grid0.N, _)

theorem lt2 (t : Fin cfg0.N) : t.val / 16 < 2 := (idx t).2.2.2.2.2.2.2.2.2.2.2.2

/-- A row of point `t`'s blocks in the arrays. -/
def rowAt (t : Fin cfg0.N) (a : Fin 128) : Fin 256 := ⟨128 * (t.val / 16) + a.val, by have := lt2 t; omega⟩

variable (c : Dev nD) (t : Fin cfg0.N)

theorem rd0 (k : Fin 12) : (iblk m c 0 t : Vec Ideal S12 .f32) (ix1 k) = A2 m c k := by
  unfold A2
  blk_ext [iblk, V, idx t]

theorem word1_at (x1 : Vec Ideal S1 .f32) : word1 (F := Ideal) x1 = x1 (ix1 0) := by
  unfold word1
  exact congrArg x1 (funext fun a => Fin.ext (by
    match a with
    | ⟨0, _⟩ => rfl))

theorem rd1 : word1 (F := Ideal) (iblk m c 1 t) = A7 m c := by
  refine (word1_at _).trans ?_
  unfold A7
  blk_point [iblk, V, idx t]

theorem rd4 (k : Fin 12) (a : Fin 128) (b : Fin 512) :
    (iblk m c 4 t : Vec Ideal S12x128x512 .i8) (ix3 k a b) = A0 m c k (rowAt t a) (⟨512 * (t.val % 16) + b.val, by omega⟩ : Fin 8192) := by
  unfold A0 rowAt
  blk_ext [iblk, V, idx t]

theorem rd5 (k : Fin 12) (a B : Fin 128) : (iblk m c 5 t : Vec Ideal S12x128x128 .f32) (ix3 k a B) = A1 m c k (rowAt t a) B := by
  unfold A1 rowAt
  blk_ext [iblk, V, idx t]

theorem rd6 (a : Fin 128) (b : Fin 1024) :
    (iblk m c 6 t : Vec Ideal S128x1024 .f32) (ix2 a b) = A3 m c (rowAt t a) (⟨1024 * (t.val % 16) + b.val, by omega⟩ : Fin 16384) := by
  unfold A3 rowAt
  blk_ext [iblk, V, idx t]

theorem rd7 (a : Fin 128) (b : Fin 1024) :
    (iblk m c 7 t : Vec Ideal S128x1024 .bf16) (ix2 a b) = A4 m c (rowAt t a) (⟨1024 * (t.val % 16) + b.val, by omega⟩ : Fin 16384) := by
  unfold A4 rowAt
  blk_ext [iblk, V, idx t]

theorem rd8 (a : Fin 128) (b : Fin 1024) :
    (iblk m c 8 t : Vec Ideal S128x1024 .i8) (ix2 a b) = A5 m c (rowAt t a) (⟨1024 * (t.val % 16) + b.val, by omega⟩ : Fin 16384) := by
  unfold A5 rowAt
  blk_ext [iblk, V, idx t]

theorem rd9 (a B : Fin 128) : (iblk m c 9 t : Vec Ideal S128x128 .f32) (ix2 a B) = A6 m c (rowAt t a) B := by
  unfold A6 rowAt
  blk_ext [iblk, V, idx t]

/-! ## A tile -/

variable (g p : Fin 4) (q : Fin 2) (r : Fin 32) (l : Fin 128)

/-- The column block of a tile, in the arrays. -/
def blkAt (t : Fin cfg0.N) (p : Fin 4) (q : Fin 2) : Fin 128 := blkOf (grid0.coords t 1) p q

theorem blkAt_val : (blkAt t p q).val = 8 * (t.val % 16) + (2 * p.val + q.val) := by
  have h := (idx t).2.2.2.2.2.2.2.2.2.2.2.1
  show 8 * (grid0.coords t 1).val + (2 * p.val + q.val) = _
  rw [h]

theorem wgt_eq (k : Fin 12) (a : Fin 128) : wgt (iblk m c 0 t) (iblk m c 5 t) k a (blkOf (grid0.coords t 1) p q) = A2 m c k * A1 m c k (rowAt t a) (blkAt t p q) :=
  congrArg₂ (fun a b : EReal => a * b) (rd0 m c t k) (rd5 m c t k a _)

theorem col_eq : (⟨1024 * (t.val % 16) + (tcol p q l).val, by omega⟩ : Fin 16384) = colOf (blkAt t p q) l :=
  Fin.ext (by
    have h := blkAt_val t p q
    show 1024 * (t.val % 16) + (256 * p.val + 128 * q.val + l.val) = (blkAt t p q).val * 128 + l.val
    omega)

theorem dB_eq : dB (grid0.coords t) (iblk m c 0 t) (iblk m c 4 t) (iblk m c 5 t) g p q r l = resD m c (rowAt t (row g r)) (blkAt t p q) l := by
  unfold dB resD dS
  refine Finset.sum_congr rfl fun k _ => congrArg₂ (fun a b : EReal => a * b) (wgt_eq m c t p q k (row g r)) ?_
  refine congrArg (nv (halfOf l)) ((rd4 m c t k (row g r) (tbyte p q l)).trans (congrArg (A0 m c k (rowAt t (row g r))) (Fin.ext ?_)))
  have h := blkAt_val t p q
  show 512 * (t.val % 16) + (128 * p.val + 64 * q.val + l.val % 64) = 64 * (blkAt t p q).val + l.val % 64
  omega

theorem bB_eq : bB (grid0.coords t) (iblk m c 0 t) (iblk m c 4 t) (iblk m c 5 t) (iblk m c 8 t) (iblk m c 9 t) g p q r l
    = resB m c (rowAt t (row g r)) (blkAt t p q) l := by
  unfold bB resB
  rw [dB_eq m c t g p q r l]
  refine congrArg₂ (fun a b => bS a b _) ((rd8 m c t (row g r) (tcol p q l)).trans ?_) (rd9 m c t (row g r) _)
  rw [col_eq]

theorem fin_of (hf : ∀ k R B, A2 m c k * A1 m c k R B ≠ ⊤ ∧ A2 m c k * A1 m c k R B ≠ ⊥) (k : Fin 12) :
    wgt (iblk m c 0 t) (iblk m c 5 t) k (row g r) (blkOf (grid0.coords t 1) p q) ≠ ⊤
      ∧ wgt (iblk m c 0 t) (iblk m c 5 t) k (row g r) (blkOf (grid0.coords t 1) p q) ≠ ⊥ := by
  rw [wgt_eq]; exact hf _ _ _

variable (hf : ∀ k R B, A2 m c k * A1 m c k R B ≠ ⊤ ∧ A2 m c k * A1 m c k R B ≠ ⊥)
include hf

theorem o12_eq : o12 (F := Ideal) (grid0.coords t) (word1 (iblk m c 1 t)) (iblk m c 4 t) (iblk m c 6 t) (iblk m c 8 t) (iblk m c 9 t) (Run.wtAt m c t) g p q (ix2 r l)
    = resO m c (rowAt t (row g r)) (blkAt t p q) l := by
  refine (o12_val (grid0.coords t) (iblk m c 0 t) (iblk m c 4 t) (iblk m c 5 t) (iblk m c 6 t) (iblk m c 8 t) (iblk m c 9 t) _ g p q r l (fin_of m c t g p q r hf)).trans ?_
  unfold resO
  rw [dB_eq, bB_eq, rd1]
  refine congrArg (fun a => oS a _ _ _) ((rd6 m c t (row g r) (tcol p q l)).trans ?_)
  rw [col_eq]

theorem o13_eq : o13 (F := Ideal) (grid0.coords t) (word1 (iblk m c 1 t)) (iblk m c 4 t) (iblk m c 6 t) (iblk m c 7 t) (iblk m c 8 t) (iblk m c 9 t) (Run.wtAt m c t) g p q (ix2 r l)
    = resM m c (rowAt t (row g r)) (blkAt t p q) l := by
  unfold o13
  rw [mergedT_at, o12_eq m c t g p q r l hf, tT_at]
  refine congrArg (fun a => mS a _) ((rd7 m c t (row g r) (tcol p q l)).trans ?_)
  rw [col_eq]

theorem o14_eq : o14 (F := Ideal) (grid0.coords t) (iblk m c 4 t) (iblk m c 8 t) (iblk m c 9 t) (Run.wtAt m c t) g p q (ix2 r l)
    = resC m c (rowAt t (row g r)) (blkAt t p q) l := by
  refine (o14_val (grid0.coords t) (iblk m c 0 t) (iblk m c 4 t) (iblk m c 5 t) (iblk m c 8 t) (iblk m c 9 t) g p q r l (fin_of m c t g p q r hf)).trans ?_
  exact congrArg (fun f => cS f l) (funext fun x => bB_eq m c t g p q r x)

omit hf in
/-- A block made of tiles is the block of an array, where its tiles are. -/
theorem tiles_eq {e : EltTy} (f : Fin 4 → Fin 4 → Fin 2 → Vec Ideal S32x128 e) (G : Fin 256 → Fin 128 → Fin 128 → Elt Ideal e)
    (h : ∀ g p q r l, f g p q (ix2 r l) = G (rowAt t (row g r)) (blkAt t p q) l) (y : S128x1024.Idx) (i : S256x16384.Idx)
    (e0 : (i 0).val = 128 * (t.val / 16) + (y 0).val) (e1 : (i 1).val = 1024 * (t.val % 16) + (y 1).val) : ofTiles f y = wide G i := by
  have h0 : (y 0).val < 128 := (y 0).isLt
  have h1 : (y 1).val < 1024 := (y 1).isLt
  refine (h _ _ _ _ _).trans (wide_at G i _ _ _ ?_ ?_).symm
  · show (i 0).val = 128 * (t.val / 16) + (32 * ((y 0).val / 32) + (y 0).val % 32)
    omega
  · rw [blkAt_val, e1]
    show 1024 * (t.val % 16) + (y 1).val = (8 * (t.val % 16) + (2 * ((y 1).val / 256) + (y 1).val / 128 % 2)) * 128 + (y 1).val % 128
    omega

/-! ## The arrays after the run -/

theorem final12 : (dats m 0 c).arrAt 12 cfg0.N = wide (resO m c) := by
  refine (dats m 0 c).arrAt_eq_of_covers 12 _ (by decide +kernel) fun t _ y => ?_
  blk_simp
  rw [after0_12]
  refine tiles_eq t _ _ (fun g p q r l => o12_eq m c t g p q r l hf) y _ ?_ ?_
  · blk_simp [idx t]
    omega
  · blk_simp [idx t]
    omega

theorem final13 : (dats m 0 c).arrAt 13 cfg0.N = wide (resM m c) := by
  refine (dats m 0 c).arrAt_eq_of_covers 13 _ (by decide +kernel) fun t _ y => ?_
  blk_simp
  rw [after0_13]
  refine tiles_eq t _ _ (fun g p q r l => o13_eq m c t g p q r l hf) y _ ?_ ?_
  · blk_simp [idx t]
    omega
  · blk_simp [idx t]
    omega

theorem final14 : (dats m 0 c).arrAt 14 cfg0.N = wide (resC m c) := by
  refine (dats m 0 c).arrAt_eq_of_covers 14 _ (by decide +kernel) fun t _ y => ?_
  blk_simp
  rw [after0_14]
  refine tiles_eq t _ _ (fun g p q r l => o14_eq m c t g p q r l hf) y _ ?_ ?_
  · blk_simp [idx t]
    omega
  · blk_simp [idx t]
    omega

end Cert.KernelIdeal.Arrays

end
-- ==== Proof.KernelRun.lean ====
module

public import proofs.«01_k».proof.Proof.KernelValue

/-! # The kernel's run with its three results named -/

@[expose] public section

noncomputable section

namespace Cert.KernelIdeal.Arrays

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (ρ : Dev nD → PrngReg)

/-- A named window's array after the run. -/
theorem post_of (r : PUnit × MemSt nD τ sig (Elt Ideal)) (h : Pipeline.RDat.FramePost (cfgs 0) (fun c => (dats m 0 c).toRForget forgets0) (V m) r)
    (c : Dev nD) (w : Fin 22) (hw : forgets0 w = false) :
    r.2.mem ((cfg0.spec w).arr.view.loc (c : Thread nD τ)) = (dats m 0 c).arrAt w cfg0.N :=
  ((dats m 0 c).toRForget_arrAt_iff hw _ _).mp ((h c).1 w)

/-- The kernel's three results, where every product of a weight and a scale is finite. -/
theorem results (hf : ∀ c k R B, A2 m c k * A1 m c k R B ≠ ⊤ ∧ A2 m c k * A1 m c k R B ≠ ⊥) :
    θ_run defs (onTc (τ := τ) (main (F := Ideal))) ⟨m, fun _ => 0, ρ⟩ fun r => ∀ c : Dev nD,
      r.2.mem ((c.tc : Thread nD τ).loc main_v3_0) = wide (resO m c)
      ∧ r.2.mem ((c.tc : Thread nD τ).loc main_v3_1) = wide (resM m c)
      ∧ r.2.mem ((c.tc : Thread nD τ).loc main_v3_2) = wide (resC m c) :=
  (θ_run defs _ _).mono (fun r h c =>
    ⟨(post_of m r h c 12 forgets0_12).trans (final12 m c (hf c)), (post_of m r h c 13 forgets0_13).trans (final13 m c (hf c)),
      (post_of m r h c 14 forgets0_14).trans (final14 m c (hf c))⟩) (run_main m ρ)

end Cert.KernelIdeal.Arrays

end
-- ==== Proof.Finite.lean ====
module

public import proofs.«01_k».proof.Defs
public import proofs.«01_k».proof.Proof.Gen.Pre_finite_weights
public import proofs.«01_k».proof.Proof.KernelValue
public import Idealize.ShloMosaic.Lib.ReduceAll

/-! # What the precondition says: every product of a weight and a scale is finite -/

@[expose] public section

noncomputable section

namespace Cert.KernelIdeal.Arrays

open Idealize.ShloMosaic Idealize.ShloMosaic.TcCoe

instance : Subsingleton Cert.Pre_finite_weights.S_.Idx := ⟨fun _ _ => funext fun a => a.elim0⟩

/-- A number whose magnitude is below infinity is neither infinity. -/
theorem finite_of (x : EReal) (h : FloatOps.cmpf (F := Ideal) (φ := .f32) .olt (FloatOps.absf (F := Ideal) (φ := .f32) x)
    (FloatOps.ofBits (F := Ideal) .f32 0x7F800000#32) = 1#1) : x ≠ ⊤ ∧ x ≠ ⊥ := by
  have e : FloatOps.ofBits (F := Ideal) .f32 0x7F800000#32 = (⊤ : EReal) := by
    show Ideal.ofBits .f32 0x7F800000#32 = ⊤
    simp [Ideal.ofBits, Ideal.ieee]
  rw [e] at h
  constructor
  · rintro rfl
    revert h
    simp [FloatOps.cmpf, FloatOps.absf, Ideal.cmp]
  · rintro rfl
    revert h
    simp [FloatOps.cmpf, FloatOps.absf, Ideal.cmp]

/-- The function read at an index. -/
theorem finite_at (x0 x1 x2 x3 x4 x5 x6 x7 x8 x9 x10 x11)
    (h : Cert.Pre_finite_weights.fn (F := Ideal) x0 x1 x2 x3 x4 x5 x6 x7 x8 x9 x10 x11 = fun _ => 1#1)
    (k : Fin 12) (R : Fin 256) (B : Fin 128) : (x2 (ix1 k) * x1 (ix3 k R B) : EReal) ≠ ⊤ ∧ (x2 (ix1 k) * x1 (ix3 k R B) : EReal) ≠ ⊥ := by
  have h0 := congrFun h ix0
  unfold Cert.Pre_finite_weights.fn at h0
  have h1 := Host.reduce_andi_all _ _ _ _ _ h0 (ix3 k R B)
  apply finite_of
  rw [← h1]
  pointwise []

theorem finite (m : (ℓ : Loc Cert.KernelIdeal.nD Cert.KernelIdeal.τ Cert.KernelIdeal.sig) → Buf (Elt Ideal) ℓ)
    (h : Cert.Pre_KernelIdeal_finite_weights m) (c : Dev Cert.KernelIdeal.nD) (k : Fin 12) (R : Fin 256) (B : Fin 128) :
    A2 m c k * A1 m c k R B ≠ ⊤ ∧ A2 m c k * A1 m c k R B ≠ ⊥ :=
  finite_at _ _ _ _ _ _ _ _ _ _ _ _ (h c) k R B

end Cert.KernelIdeal.Arrays

end
-- ==== Proof.RefCodes.lean ====
module

public import proofs.«01_k».proof.Proof.Gen.ReferenceIdeal.Read
public import proofs.«01_k».proof.Proof.Spec
public import Idealize.ShloMosaic.Lib.Pointwise
public import Idealize.ShloMosaic.Lib.IdealHost

/-! # The reference's codes at an index -/

@[expose] public section

set_option maxRecDepth 16384

noncomputable section

namespace Cert.ReferenceIdeal.Read

open Cert.ReferenceIdeal Cert.ReferenceIdeal.Gen Idealize.ShloMosaic Idealize.ShloMosaic.TcCoe
open Cert.Spec Cert.KernelIdeal.Tile

/-- The scale, of the largest magnitude. -/
theorem scale_of (A : EReal) : Scalar.select (FloatOps.cmpf (F := Ideal) (φ := .f32) .oeq A (FloatOps.ofBits (F := Ideal) .f32 0x00000000#32))
      (FloatOps.ofBits (F := Ideal) .f32 0x3F800000#32) (FloatOps.hostDivf (F := Ideal) (φ := .f32) A (FloatOps.ofBits (F := Ideal) .f32 0x42FE0000#32))
    = if A = 0 then 1 else Ideal.div A (Ideal.ofBits .f32 0x42FE0000#32) := by
  pointwise []

/-- The clipped quotient, of a value and its scale. -/
theorem clip_of (a s : EReal) : FloatOps.minimumf (F := Ideal) (φ := .f32) (FloatOps.ofBits (F := Ideal) .f32 0x42FE0000#32)
      (FloatOps.maximumf (F := Ideal) (φ := .f32) (FloatOps.ofBits (F := Ideal) .f32 0xC2FE0000#32)
        (FloatOps.hostUnary (F := Ideal) (φ := .f32) .roundeven (Ideal.div a s)))
    = min (Ideal.ofBits .f32 0x42FE0000#32) (max (Ideal.ofBits .f32 0xC2FE0000#32) (Ideal.liftRound Ideal.roundHalfEven (Ideal.div a s))) := rfl

variable (x0 : Vec Ideal S12x256x8192 .i8) (x1 : Vec Ideal S12x256x128 .f32) (x2 : Vec Ideal S12 .f32) (x5 : Vec Ideal S256x16384 .i8) (x6 : Vec Ideal S256x128 .f32) (R : Fin 256) (B : Fin 128) (l : Fin 128)

/-- The largest magnitude of a row of a block. -/
theorem amax_at : val_main_v70 (F := Ideal) x0 x1 x2 x5 x6 (ix2 R B) = amaxS fun x => val_main_v54 (F := Ideal) x0 x1 x2 x5 x6 (ix3 R B x) := by
  pointwise [val_main_v69, val_main_cst_19, val_main_v70]
  rfl

/-- The scale of a row of a block. -/
theorem scale_at : val_main_v75 (F := Ideal) x0 x1 x2 x5 x6 (ix2 R B) = scaleS fun x => val_main_v54 (F := Ideal) x0 x1 x2 x5 x6 (ix3 R B x) := by
  rw [val_main_v75_apply, val_main_v72_apply, val_main_v74_apply, val_main_v71_apply, val_main_v73_apply, val_main_call4_v1_apply,
    val_main_call4_v0_apply, val_main_cst_20_apply, val_main_cst_21_apply, val_main_cst_22_apply, amax_at]
  exact scale_of _

/-- The quotient by the scale. -/
theorem div_at : val_main_v78 (F := Ideal) x0 x1 x2 x5 x6 (ix3 R B l)
    = Ideal.div (val_main_v54 (F := Ideal) x0 x1 x2 x5 x6 (ix3 R B l)) (val_main_v75 (F := Ideal) x0 x1 x2 x5 x6 (ix2 R B)) := by
  rw [val_main_v78_apply, val_main_v77_apply, val_main_v76_apply]
  have e : idx_main_v76 (idx_main_v77 (ix3 R B l)) = ix2 R B := funext fun a => by
    match a with
    | ⟨0, _⟩ => rfl
    | ⟨1, _⟩ => rfl
  rw [e]
  generalize val_main_v54 (F := Ideal) x0 x1 x2 x5 x6 (ix3 R B l) = a
  generalize val_main_v75 (F := Ideal) x0 x1 x2 x5 x6 (ix2 R B) = b
  rfl

/-- The clipped quotient. -/
theorem quot_at : val_main_v80 (F := Ideal) x0 x1 x2 x5 x6 (ix3 R B l) = quotS (fun x => val_main_v54 (F := Ideal) x0 x1 x2 x5 x6 (ix3 R B x)) l := by
  rw [val_main_v80_apply, val_main_call6_v4_apply, val_main_call6_v3_apply, val_main_cst_24_apply, val_main_call6_v2_apply,
    val_main_call6_v1_apply, val_main_call6_v0_apply, val_main_cst_23_apply, val_main_v79_apply, div_at, scale_at]
  exact clip_of _ _

/-- The new code. -/
theorem c_at : val_main_v84 (F := Ideal) x0 x1 x2 x5 x6 (ix3 R B l) = cS (fun x => val_main_v54 (F := Ideal) x0 x1 x2 x5 x6 (ix3 R B x)) l := by
  rw [val_main_v84_apply, val_main_v83_apply, quot_at]
  exact code_via32 _ _

end Cert.ReferenceIdeal.Read

end
-- ==== Proof.RefValue.lean ====
module

public import proofs.«01_k».proof.Proof.Gen.ReferenceIdeal.Read
public import proofs.«01_k».proof.Proof.Spec
public import Idealize.ShloMosaic.Lib.Pointwise

/-! # The reference at an index -/

@[expose] public section

set_option maxRecDepth 16384

noncomputable section

namespace Cert.ReferenceIdeal.Read

open Cert.ReferenceIdeal Cert.ReferenceIdeal.Gen Idealize.ShloMosaic Idealize.ShloMosaic.TcCoe
open Cert.Spec Cert.KernelIdeal.Tile

/-- The low nibble of a byte, decoded. -/
theorem lo_at (x0 : Vec Ideal S12x256x8192 .i8) (k : Fin 12) (R : Fin 256) (B : Fin 128) (b : Fin 64) :
    val_main_v19 (F := Ideal) x0 (ix4 k R B b) = nv 0 (x0 (ix3 k R (⟨B.val * 64 + b.val, by omega⟩ : Fin 8192))) := by
  pointwise [val_main_v0, val_main_v1, val_main_c, val_main_v2, val_main_v3, val_main_c_0, val_main_v4, val_main_v5, val_main_c_1, val_main_v6, val_main_v7, val_main_c_2, val_main_v8, val_main_v9, val_main_v10, val_main_cst, val_main_v11, val_main_v12, val_main_cst_3, val_main_call0_v0, val_main_call0_v1, val_main_v13, val_main_c_4, val_main_v14, val_main_v15, val_main_c_5, val_main_v16, val_main_v17, val_main_v18, val_main_v19]
  exact Nibble.ref_lo _

/-- The high nibble of a byte, decoded. -/
theorem hi_at (x0 : Vec Ideal S12x256x8192 .i8) (k : Fin 12) (R : Fin 256) (B : Fin 128) (b : Fin 64) :
    val_main_v37 (F := Ideal) x0 (ix4 k R B b) = nv 1 (x0 (ix3 k R (⟨B.val * 64 + b.val, by omega⟩ : Fin 8192))) := by
  pointwise [val_main_v0, val_main_v1, val_main_c_6, val_main_v20, val_main_v21, val_main_c_7, val_main_v22, val_main_v23, val_main_c_8, val_main_v24, val_main_v25, val_main_c_9, val_main_v26, val_main_v27, val_main_v28, val_main_cst_10, val_main_v29, val_main_v30, val_main_cst_11, val_main_call2_v0, val_main_call2_v1, val_main_v31, val_main_c_12, val_main_v32, val_main_v33, val_main_c_13, val_main_v34, val_main_v35, val_main_v36, val_main_v37]
  exact Nibble.ref_hi _

/-- The weighted sum of the decoded deltas. -/
theorem d_at (x0 : Vec Ideal S12x256x8192 .i8) (x1 : Vec Ideal S12x256x128 .f32) (x2 : Vec Ideal S12 .f32) (R : Fin 256) (B : Fin 128) (l : Fin 128) :
    val_main_v45 (F := Ideal) x0 x1 x2 (ix3 R B l)
      = dS (fun k R c => x0 (ix3 k R c)) (fun k R B => x1 (ix3 k R B)) (fun k => x2 (ix1 k)) R B l := by
  pointwise [val_main_v38, val_main_v39, val_main_v40, val_main_v41, val_main_v42, val_main_v43, val_main_v44, val_main_cst_14, val_main_v45]
  unfold dS
  refine Finset.sum_congr rfl fun k _ => ?_
  have e : ∀ v n s w : EReal, v = n → w * (v * s) = (w * s) * n := fun v n s w h => by rw [h, mul_comm n s, mul_assoc]
  refine e _ _ _ _ ?_
  split
  · rename_i h
    refine (lo_at x0 k R B _).trans ?_
    have h1 : halfOf l = 0 := Fin.ext (by show l.val / 64 = 0; omega)
    rw [h1]
    exact congrArg (fun c => nv 0 (x0 (ix3 k R c))) (Fin.ext (by show B.val * 64 + l.val = 64 * B.val + l.val % 64; omega))
  · rename_i h
    refine (hi_at x0 k R B _).trans ?_
    have h1 : halfOf l = 1 := Fin.ext (by show l.val / 64 = 1; omega)
    rw [h1]
    exact congrArg (fun c => nv 1 (x0 (ix3 k R c))) (Fin.ext (by show B.val * 64 + (l.val - 64) = 64 * B.val + l.val % 64; omega))

theorem sitofp_signExtend (b : BitVec 8) : FloatOps.sitofp (F := Ideal) .f32 (b.signExtend 32) = FloatOps.sitofp (F := Ideal) .f32 b := by
  rw [Nibble.sitofp_val, Nibble.sitofp_val]
  have : ∀ b : BitVec 8, (b.signExtend 32).toInt = b.toInt := by decide +kernel
  rw [this]

/-- The new momentum. -/
theorem b_at (x0 : Vec Ideal S12x256x8192 .i8) (x1 : Vec Ideal S12x256x128 .f32) (x2 : Vec Ideal S12 .f32) (x5 : Vec Ideal S256x16384 .i8) (x6 : Vec Ideal S256x128 .f32) (R : Fin 256) (B : Fin 128) (l : Fin 128) :
    val_main_v54 (F := Ideal) x0 x1 x2 x5 x6 (ix3 R B l)
      = bS (x5 (ix2 R (colOf B l))) (x6 (ix2 R B)) (val_main_v45 (F := Ideal) x0 x1 x2 (ix3 R B l)) := by
  pointwise [val_main_v46, val_main_v47, val_main_v48, val_main_v49, val_main_v50, val_main_v51, val_main_cst_15, val_main_v52, val_main_v53, val_main_v54]
  rw [sitofp_signExtend]
  rfl

/-- The new global value. -/
theorem o_at (x0 : Vec Ideal S12x256x8192 .i8) (x1 : Vec Ideal S12x256x128 .f32) (x2 : Vec Ideal S12 .f32) (x3 : Vec Ideal S256x16384 .f32) (x5 : Vec Ideal S256x16384 .i8) (x6 : Vec Ideal S256x128 .f32) (x7 : Vec Ideal S_ .f32) (R : Fin 256) (B : Fin 128) (l : Fin 128) :
    val_main_v63 (F := Ideal) x0 x1 x2 x3 x5 x6 x7 (ix3 R B l)
      = oS (x3 (ix2 R (colOf B l))) (x7 ix0) (val_main_v45 (F := Ideal) x0 x1 x2 (ix3 R B l)) (val_main_v54 (F := Ideal) x0 x1 x2 x5 x6 (ix3 R B l)) := by
  pointwise [val_main_v57, val_main_cst_16, val_main_v58, val_main_v59, val_main_v60, val_main_v61, val_main_v62, val_main_v63]
  rfl

/-- The merged value. -/
theorem m_at (x0 : Vec Ideal S12x256x8192 .i8) (x1 : Vec Ideal S12x256x128 .f32) (x2 : Vec Ideal S12 .f32) (x3 : Vec Ideal S256x16384 .f32) (x4 : Vec Ideal S256x16384 .bf16) (x5 : Vec Ideal S256x16384 .i8) (x6 : Vec Ideal S256x128 .f32) (x7 : Vec Ideal S_ .f32) (R : Fin 256) (B : Fin 128) (l : Fin 128) :
    val_main_v68 (F := Ideal) x0 x1 x2 x3 x4 x5 x6 x7 (ix3 R B l)
      = mS (x4 (ix2 R (colOf B l))) (val_main_v63 (F := Ideal) x0 x1 x2 x3 x5 x6 x7 (ix3 R B l)) := by
  pointwise [val_main_v55, val_main_v56, val_main_cst_17, val_main_v64, val_main_v65, val_main_cst_18, val_main_v66, val_main_v67, val_main_v68]
  rfl

end Cert.ReferenceIdeal.Read

end
-- ==== Proof.Results.lean ====
module

public import proofs.«01_k».proof.Proof.RefCodes
public import proofs.«01_k».proof.Proof.RefValue
public import proofs.«01_k».proof.Proof.KernelValue

/-! # The reference's three arrays are the kernel's

The reference's results at a row, a block and a lane are the formulas of `Spec`, the ones the kernel's arrays are made of. -/

@[expose] public section

set_option maxRecDepth 16384

noncomputable section

namespace Cert.ReferenceIdeal.Read

open Cert.ReferenceIdeal Cert.ReferenceIdeal.Gen Idealize.ShloMosaic Idealize.ShloMosaic.TcCoe
open Cert.Spec Cert.KernelIdeal.Arrays

section
variable (x0 : Vec Ideal S12x256x8192 .i8) (x1 : Vec Ideal S12x256x128 .f32) (x2 : Vec Ideal S12 .f32) (x3 : Vec Ideal S256x16384 .f32)
  (x4 : Vec Ideal S256x16384 .bf16) (x5 : Vec Ideal S256x16384 .i8) (x6 : Vec Ideal S256x128 .f32) (x7 : Vec Ideal S_ .f32)

/-- The weighted sum over the reference's arguments. -/
def rD (R : Fin 256) (B l : Fin 128) : EReal := dS (fun k R c => x0 (ix3 k R c)) (fun k R B => x1 (ix3 k R B)) (fun k => x2 (ix1 k)) R B l
/-- The new momentum. -/
def rB (R : Fin 256) (B l : Fin 128) : EReal := bS (x5 (ix2 R (colOf B l))) (x6 (ix2 R B)) (rD x0 x1 x2 R B l)
/-- The new global value. -/
def rO (R : Fin 256) (B l : Fin 128) : EReal := oS (x3 (ix2 R (colOf B l))) (x7 ix0) (rD x0 x1 x2 R B l) (rB x0 x1 x2 x5 x6 R B l)
/-- The merged value. -/
def rM (R : Fin 256) (B l : Fin 128) : EReal := mS (x4 (ix2 R (colOf B l))) (rO x0 x1 x2 x3 x5 x6 x7 R B l)
/-- The new code. -/
def rC (R : Fin 256) (B l : Fin 128) : BitVec 8 := cS (fun x => rB x0 x1 x2 x5 x6 R B x) l

theorem b_val (R : Fin 256) (B l : Fin 128) : val_main_v54 (F := Ideal) x0 x1 x2 x5 x6 (ix3 R B l) = rB x0 x1 x2 x5 x6 R B l := by
  rw [b_at, d_at]; rfl

theorem o_val (R : Fin 256) (B l : Fin 128) : val_main_v63 (F := Ideal) x0 x1 x2 x3 x5 x6 x7 (ix3 R B l) = rO x0 x1 x2 x3 x5 x6 x7 R B l := by
  rw [o_at, b_val, d_at]; rfl

theorem m_val (R : Fin 256) (B l : Fin 128) :
    val_main_v68 (F := Ideal) x0 x1 x2 x3 x4 x5 x6 x7 (ix3 R B l) = rM x0 x1 x2 x3 x4 x5 x6 x7 R B l := by
  rw [m_at, o_val]; rfl

theorem c_val (R : Fin 256) (B l : Fin 128) : val_main_v84 (F := Ideal) x0 x1 x2 x5 x6 (ix3 R B l) = rC x0 x1 x2 x5 x6 R B l := by
  rw [c_at]
  exact congrArg (fun f => cS f l) (funext fun x => b_val x0 x1 x2 x5 x6 R B x)

/-- Where an index of a wide array lies among rows, blocks and lanes. -/
theorem idx_eq (i : S256x16384.Idx) : ∃ (R : Fin 256) (B l : Fin 128), idx_main_v81 i = ix3 R B l ∧ idx_main_v82 i = ix3 R B l
    ∧ idx_main_v85 i = ix3 R B l ∧ (i 0).val = R.val ∧ (i 1).val = B.val * 128 + l.val := by
  have h0 : (i 0).val < 256 := (i 0).isLt
  have h1 : (i 1).val < 16384 := (i 1).isLt
  have e : ∀ j : S256x128x128.Idx, (j 0).val = ((i 0).val * 16384 + (i 1).val) / 16384 → (j 1).val = ((i 0).val * 16384 + (i 1).val) / 128 % 128
      → (j 2).val = ((i 0).val * 16384 + (i 1).val) % 128
      → j = ix3 (⟨(i 0).val, h0⟩ : Fin 256) (⟨(i 1).val / 128, by omega⟩ : Fin 128) (⟨(i 1).val % 128, by omega⟩ : Fin 128) :=
    fun j a b c => funext fun x => Fin.ext (by
      match x with
      | ⟨0, _⟩ => exact a.trans (by show _ = (i 0).val; omega)
      | ⟨1, _⟩ => exact b.trans (by show _ = (i 1).val / 128; omega)
      | ⟨2, _⟩ => exact c.trans (by show _ = (i 1).val % 128; omega))
  exact ⟨⟨(i 0).val, h0⟩, ⟨(i 1).val / 128, by omega⟩, ⟨(i 1).val % 128, by omega⟩, e _ rfl rfl rfl, e _ rfl rfl rfl, e _ rfl rfl rfl, rfl,
    by show (i 1).val = (i 1).val / 128 * 128 + (i 1).val % 128; omega⟩

theorem out_o : val_main_v81 (F := Ideal) x0 x1 x2 x3 x5 x6 x7 = wide (rO x0 x1 x2 x3 x5 x6 x7) := funext fun i => by
  obtain ⟨R, B, l, h, -, -, e0, e1⟩ := idx_eq i
  rw [val_main_v81_apply, h, o_val]
  exact (wide_at _ i R B l e0 e1).symm

theorem out_m : val_main_v82 (F := Ideal) x0 x1 x2 x3 x4 x5 x6 x7 = wide (rM x0 x1 x2 x3 x4 x5 x6 x7) := funext fun i => by
  obtain ⟨R, B, l, -, h, -, e0, e1⟩ := idx_eq i
  rw [val_main_v82_apply, h, m_val]
  exact (wide_at _ i R B l e0 e1).symm

theorem out_c : val_main_v85 (F := Ideal) x0 x1 x2 x5 x6 = wide (rC x0 x1 x2 x5 x6) := funext fun i => by
  obtain ⟨R, B, l, -, -, h, e0, e1⟩ := idx_eq i
  rw [val_main_v85_apply, h, c_val]
  exact (wide_at _ i R B l e0 e1).symm

end

end Cert.ReferenceIdeal.Read

end
-- ==== Proof.lean ====
module

public import proofs.«01_k».proof.Defs
public import proofs.«01_k».proof.Proof.Gen.Pre_finite_weights
public import proofs.«01_k».proof.Proof.Gen.ReferenceIdeal.Run
public import proofs.«01_k».proof.Proof.Gen.ReferenceIdeal.Read
public import proofs.«01_k».proof.Proof.BitsFrame
public import proofs.«01_k».proof.Proof.IdealFrame
public import proofs.«01_k».proof.Proof.KernelRun
public import proofs.«01_k».proof.Proof.Finite
public import proofs.«01_k».proof.Proof.Results

@[expose] public section

noncomputable section

namespace Cert.Proof

open Idealize.ShloMosaic Idealize.SL.Sem
open Cert.KernelIdeal.Arrays Cert.ReferenceIdeal.Read

/-- The reference runs to its end, leaves its arguments as they began and has no semaphore to leave raised. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the reference's. -/
theorem algebraic : Cert.algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m g m' g' hpre hagree
  refine ⟨fun c => wide (resO m c), fun c => wide (resM m c), fun c => wide (resC m c), ?_, ?_⟩
  · refine θ_run_mono (θ_run_and (results m g (finite m hpre)) (Cert.KernelIdeal.Run.unchanged m g)) ?_
    exact fun r h c => ⟨(h.1 c).1, (h.1 c).2.1, (h.1 c).2.2, h.2 c⟩
  · refine (θ_run Cert.ReferenceIdeal.defs _ _).mono (fun r h c => ?_) (Cert.ReferenceIdeal.Value.run (F := Ideal) m' g')
    obtain ⟨a0, a1, a2, a3, a4, a5, a6, a7, a8, a9, a10, a11⟩ := hagree c
    obtain ⟨r0, r1, r2, k⟩ := h c
    refine ⟨r0.trans ?_, r1.trans ?_, r2.trans ?_, k⟩
    · refine (val_main_v81_eq m' c).trans ?_
      rw [out_o, a0, a1, a2, a3, a5, a6, a7]
      rfl
    · refine (val_main_v82_eq m' c).trans ?_
      rw [out_m, a0, a1, a2, a3, a4, a5, a6, a7]
      rfl
    · refine (val_main_v85_eq m' c).trans ?_
      rw [out_c, a0, a1, a2, a5, a6]
      rfl

theorem claim : Cert.Claim :=
  ⟨Cert.Kernel.Gen.facts, Cert.KernelIdeal.Gen.facts, Cert.ReferenceIdeal.Gen.facts, Cert.Pre_finite_weights.Gen.facts,
    fun m ρ _ => Cert.Kernel.Run.frame m ρ,
    fun m ρ _ => Cert.KernelIdeal.Run.frame m ρ,
    fun m ρ _ => Cert.KernelIdeal.Run.frame m ρ,
    reference_frame,
    fun m ρ _ => reference_frame m ρ trivial,
    ⟨IdealRules.bf16_pack.statement _, IdealRules.named_const.statement Cert.KernelIdeal.κ "log2e" .f32 0x3FB8AA3B#32 _ rfl⟩,
    algebraic⟩

end Cert.Proof

end
